-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8192 : Shape := ⟨2, ![64, 8192]⟩
abbrev S64x64 : Shape := ⟨2, ![64, 64]⟩
abbrev S8192 : Shape := ⟨1, ![8192]⟩
abbrev S64 : Shape := ⟨1, ![64]⟩
abbrev S_ : Shape := ⟨0, ![]⟩
abbrev S1x8192 : Shape := ⟨2, ![1, 8192]⟩
abbrev S16 : Shape := ⟨1, ![16]⟩
abbrev S1 : Shape := ⟨1, ![1]⟩
abbrev S15 : Shape := ⟨1, ![15]⟩
abbrev S1x64 : Shape := ⟨2, ![1, 64]⟩

abbrev nBuf : Table → Nat
  | .hbm => 2
  | .local .scVector .vmem => 4
  | _ => 0

abbrev bufTy : (tb : Table) → Fin (nBuf tb) → BufTy
  | .hbm, ⟨0, _⟩ => ⟨S64x8192, .f32⟩
  | .hbm, ⟨1, _⟩ => ⟨S64x64, .f32⟩
  | .local .scVector .vmem, ⟨0, _⟩ => ⟨S8192, .f32⟩
  | .local .scVector .vmem, ⟨1, _⟩ => ⟨S8192, .f32⟩
  | .local .scVector .vmem, ⟨2, _⟩ => ⟨S64, .f32⟩
  | .local .scVector .vmem, ⟨3, _⟩ => ⟨S64, .f32⟩
  | _, _ => ⟨S64x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32 : BitVec 32 := 1#32
  let v3 : BitVec 32 := Scalar.addi v2 c1_i32
  let c0_i32_2 : BitVec 32 := 0#32
  ![v3.toNat, 0]
@[reducible] def k0_t1_loop : Scf.Loop 32 :=
  let c0_i32_8 : BitVec 32 := 0#32
  let c32_i32 : BitVec 32 := 32#32
  let v21 : BitVec 32 := Scalar.addi c0_i32_8 c32_i32
  let c1_i32_9 : BitVec 32 := 1#32
  ⟨c0_i32_8, v21, c1_i32_9⟩
def k0_off3 (k0_t1 : Fin k0_t1_loop.trips) (c0_i32_15 : BitVec 32) : Fin 1 → Nat :=
  let c0_i32_8 : BitVec 32 := 0#32
  let c1_i32_9 : BitVec 32 := 1#32
  let arg10 : BitVec 32 := Scf.iv c0_i32_8 c1_i32_9 k0_t1
  let c256_i32 : BitVec 32 := 256#32
  let v167 : BitVec 32 := Scalar.muli arg10 c256_i32
  let v168 : BitVec 32 := Scalar.addi v167 c0_i32_15
  let v169 : Index := Scalar.indexCast v168
  ![v169.toNat]
@[reducible] def k0_t2_loop : Scf.Loop 32 :=
  let c0_i32_18 : BitVec 32 := 0#32
  let c16_i32_19 : BitVec 32 := 16#32
  let v181 : BitVec 32 := Scalar.addi c0_i32_18 c16_i32_19
  let c1_i32_20 : BitVec 32 := 1#32
  ⟨c0_i32_18, v181, c1_i32_20⟩
@[reducible] def k0_t3_loop : Scf.Loop 32 :=
  let c0_i32_23 : BitVec 32 := 0#32
  let c16_i32_24 : BitVec 32 := 16#32
  let v184 : BitVec 32 := Scalar.addi c0_i32_23 c16_i32_24
  let c1_i32_25 : BitVec 32 := 1#32
  ⟨c0_i32_23, v184, c1_i32_25⟩
@[reducible] def k0_t4_loop : Scf.Loop 32 :=
  let c0_i32_28 : BitVec 32 := 0#32
  let c16_i32_29 : BitVec 32 := 16#32
  let v206 : BitVec 32 := Scalar.addi c0_i32_28 c16_i32_29
  let c1_i32_30 : BitVec 32 := 1#32
  ⟨c0_i32_28, v206, c1_i32_30⟩
@[reducible] def k0_t5_loop : Scf.Loop 32 :=
  let c0_i32_33 : BitVec 32 := 0#32
  let c16_i32_34 : BitVec 32 := 16#32
  let v209 : BitVec 32 := Scalar.addi c0_i32_33 c16_i32_34
  let c1_i32_35 : BitVec 32 := 1#32
  ⟨c0_i32_33, v209, c1_i32_35⟩
@[reducible] def k0_t6_loop : Scf.Loop 32 :=
  let c0_i32_38 : BitVec 32 := 0#32
  let c16_i32_39 : BitVec 32 := 16#32
  let v212 : BitVec 32 := Scalar.addi c0_i32_38 c16_i32_39
  let c1_i32_40 : BitVec 32 := 1#32
  ⟨c0_i32_38, v212, c1_i32_40⟩
@[reducible] def k0_t7_loop : Scf.Loop 32 :=
  let c0_i32_43 : BitVec 32 := 0#32
  let c16_i32_44 : BitVec 32 := 16#32
  let v215 : BitVec 32 := Scalar.addi c0_i32_43 c16_i32_44
  let c1_i32_45 : BitVec 32 := 1#32
  ⟨c0_i32_43, v215, c1_i32_45⟩
@[reducible] def k0_t8_loop : Scf.Loop 32 :=
  let c0_i32_48 : BitVec 32 := 0#32
  let c16_i32_49 : BitVec 32 := 16#32
  let v237 : BitVec 32 := Scalar.addi c0_i32_48 c16_i32_49
  let c1_i32_50 : BitVec 32 := 1#32
  ⟨c0_i32_48, v237, c1_i32_50⟩
@[reducible] def k0_t9_loop : Scf.Loop 32 :=
  let c0_i32_53 : BitVec 32 := 0#32
  let c16_i32_54 : BitVec 32 := 16#32
  let v240 : BitVec 32 := Scalar.addi c0_i32_53 c16_i32_54
  let c1_i32_55 : BitVec 32 := 1#32
  ⟨c0_i32_53, v240, c1_i32_55⟩
@[reducible] def k0_t10_loop : Scf.Loop 32 :=
  let c0_i32_58 : BitVec 32 := 0#32
  let c16_i32_59 : BitVec 32 := 16#32
  let v285 : BitVec 32 := Scalar.addi c0_i32_58 c16_i32_59
  let c1_i32_60 : BitVec 32 := 1#32
  ⟨c0_i32_58, v285, c1_i32_60⟩
@[reducible] def k0_t11_loop : Scf.Loop 32 :=
  let c0_i32_63 : BitVec 32 := 0#32
  let c16_i32_64 : BitVec 32 := 16#32
  let v288 : BitVec 32 := Scalar.addi c0_i32_63 c16_i32_64
  let c1_i32_65 : BitVec 32 := 1#32
  ⟨c0_i32_63, v288, c1_i32_65⟩
@[reducible] def k0_t12_loop : Scf.Loop 32 :=
  let c0_i32_68 : BitVec 32 := 0#32
  let c16_i32_69 : BitVec 32 := 16#32
  let v291 : BitVec 32 := Scalar.addi c0_i32_68 c16_i32_69
  let c1_i32_70 : BitVec 32 := 1#32
  ⟨c0_i32_68, v291, c1_i32_70⟩
@[reducible] def k0_t13_loop : Scf.Loop 32 :=
  let c0_i32_73 : BitVec 32 := 0#32
  let c16_i32_74 : BitVec 32 := 16#32
  let v294 : BitVec 32 := Scalar.addi c0_i32_73 c16_i32_74
  let c1_i32_75 : BitVec 32 := 1#32
  ⟨c0_i32_73, v294, c1_i32_75⟩
def k0_off4 (k0_t1 : Fin k0_t1_loop.trips) (c64_i32 : BitVec 32) (c0_i32_77 : BitVec 32) : Fin 1 → Nat :=
  let c0_i32_8 : BitVec 32 := 0#32
  let c1_i32_9 : BitVec 32 := 1#32
  let arg10 : BitVec 32 := Scf.iv c0_i32_8 c1_i32_9 k0_t1
  let c256_i32 : BitVec 32 := 256#32
  let v167 : BitVec 32 := Scalar.muli arg10 c256_i32
  let v296 : BitVec 32 := Scalar.addi v167 c64_i32
  let v297 : BitVec 32 := Scalar.addi v296 c0_i32_77
  let v298 : Index := Scalar.indexCast v297
  ![v298.toNat]
@[reducible] def k0_t14_loop : Scf.Loop 32 :=
  let c0_i32_82 : BitVec 32 := 0#32
  let c16_i32_83 : BitVec 32 := 16#32
  let v310 : BitVec 32 := Scalar.addi c0_i32_82 c16_i32_83
  let c1_i32_84 : BitVec 32 := 1#32
  ⟨c0_i32_82, v310, c1_i32_84⟩
@[reducible] def k0_t15_loop : Scf.Loop 32 :=
  let c0_i32_87 : BitVec 32 := 0#32
  let c16_i32_88 : BitVec 32 := 16#32
  let v313 : BitVec 32 := Scalar.addi c0_i32_87 c16_i32_88
  let c1_i32_89 : BitVec 32 := 1#32
  ⟨c0_i32_87, v313, c1_i32_89⟩
@[reducible] def k0_t16_loop : Scf.Loop 32 :=
  let c0_i32_92 : BitVec 32 := 0#32
  let c16_i32_93 : BitVec 32 := 16#32
  let v335 : BitVec 32 := Scalar.addi c0_i32_92 c16_i32_93
  let c1_i32_94 : BitVec 32 := 1#32
  ⟨c0_i32_92, v335, c1_i32_94⟩
@[reducible] def k0_t17_loop : Scf.Loop 32 :=
  let c0_i32_97 : BitVec 32 := 0#32
  let c16_i32_98 : BitVec 32 := 16#32
  let v338 : BitVec 32 := Scalar.addi c0_i32_97 c16_i32_98
  let c1_i32_99 : BitVec 32 := 1#32
  ⟨c0_i32_97, v338, c1_i32_99⟩
@[reducible] def k0_t18_loop : Scf.Loop 32 :=
  let c0_i32_102 : BitVec 32 := 0#32
  let c16_i32_103 : BitVec 32 := 16#32
  let v341 : BitVec 32 := Scalar.addi c0_i32_102 c16_i32_103
  let c1_i32_104 : BitVec 32 := 1#32
  ⟨c0_i32_102, v341, c1_i32_104⟩
@[reducible] def k0_t19_loop : Scf.Loop 32 :=
  let c0_i32_107 : BitVec 32 := 0#32
  let c16_i32_108 : BitVec 32 := 16#32
  let v344 : BitVec 32 := Scalar.addi c0_i32_107 c16_i32_108
  let c1_i32_109 : BitVec 32 := 1#32
  ⟨c0_i32_107, v344, c1_i32_109⟩
@[reducible] def k0_t20_loop : Scf.Loop 32 :=
  let c0_i32_112 : BitVec 32 := 0#32
  let c16_i32_113 : BitVec 32 := 16#32
  let v366 : BitVec 32 := Scalar.addi c0_i32_112 c16_i32_113
  let c1_i32_114 : BitVec 32 := 1#32
  ⟨c0_i32_112, v366, c1_i32_114⟩
@[reducible] def k0_t21_loop : Scf.Loop 32 :=
  let c0_i32_117 : BitVec 32 := 0#32
  let c16_i32_118 : BitVec 32 := 16#32
  let v369 : BitVec 32 := Scalar.addi c0_i32_117 c16_i32_118
  let c1_i32_119 : BitVec 32 := 1#32
  ⟨c0_i32_117, v369, c1_i32_119⟩
@[reducible] def k0_t22_loop : Scf.Loop 32 :=
  let c0_i32_122 : BitVec 32 := 0#32
  let c16_i32_123 : BitVec 32 := 16#32
  let v414 : BitVec 32 := Scalar.addi c0_i32_122 c16_i32_123
  let c1_i32_124 : BitVec 32 := 1#32
  ⟨c0_i32_122, v414, c1_i32_124⟩
@[reducible] def k0_t23_loop : Scf.Loop 32 :=
  let c0_i32_127 : BitVec 32 := 0#32
  let c16_i32_128 : BitVec 32 := 16#32
  let v417 : BitVec 32 := Scalar.addi c0_i32_127 c16_i32_128
  let c1_i32_129 : BitVec 32 := 1#32
  ⟨c0_i32_127, v417, c1_i32_129⟩
@[reducible] def k0_t24_loop : Scf.Loop 32 :=
  let c0_i32_132 : BitVec 32 := 0#32
  let c16_i32_133 : BitVec 32 := 16#32
  let v420 : BitVec 32 := Scalar.addi c0_i32_132 c16_i32_133
  let c1_i32_134 : BitVec 32 := 1#32
  ⟨c0_i32_132, v420, c1_i32_134⟩
@[reducible] def k0_t25_loop : Scf.Loop 32 :=
  let c0_i32_137 : BitVec 32 := 0#32
  let c16_i32_138 : BitVec 32 := 16#32
  let v423 : BitVec 32 := Scalar.addi c0_i32_137 c16_i32_138
  let c1_i32_139 : BitVec 32 := 1#32
  ⟨c0_i32_137, v423, c1_i32_139⟩
@[reducible] def k0_t26_loop : Scf.Loop 32 :=
  let c0_i32_146 : BitVec 32 := 0#32
  let c16_i32_147 : BitVec 32 := 16#32
  let v439 : BitVec 32 := Scalar.addi c0_i32_146 c16_i32_147
  let c1_i32_148 : BitVec 32 := 1#32
  ⟨c0_i32_146, v439, c1_i32_148⟩
@[reducible] def k0_t27_loop : Scf.Loop 32 :=
  let c0_i32_151 : BitVec 32 := 0#32
  let c16_i32_152 : BitVec 32 := 16#32
  let v442 : BitVec 32 := Scalar.addi c0_i32_151 c16_i32_152
  let c1_i32_153 : BitVec 32 := 1#32
  ⟨c0_i32_151, v442, c1_i32_153⟩
@[reducible] def k0_t28_loop : Scf.Loop 32 :=
  let c0_i32_156 : BitVec 32 := 0#32
  let c16_i32_157 : BitVec 32 := 16#32
  let v464 : BitVec 32 := Scalar.addi c0_i32_156 c16_i32_157
  let c1_i32_158 : BitVec 32 := 1#32
  ⟨c0_i32_156, v464, c1_i32_158⟩
@[reducible] def k0_t29_loop : Scf.Loop 32 :=
  let c0_i32_161 : BitVec 32 := 0#32
  let c16_i32_162 : BitVec 32 := 16#32
  let v467 : BitVec 32 := Scalar.addi c0_i32_161 c16_i32_162
  let c1_i32_163 : BitVec 32 := 1#32
  ⟨c0_i32_161, v467, c1_i32_163⟩
@[reducible] def k0_t30_loop : Scf.Loop 32 :=
  let c0_i32_166 : BitVec 32 := 0#32
  let c16_i32_167 : BitVec 32 := 16#32
  let v470 : BitVec 32 := Scalar.addi c0_i32_166 c16_i32_167
  let c1_i32_168 : BitVec 32 := 1#32
  ⟨c0_i32_166, v470, c1_i32_168⟩
@[reducible] def k0_t31_loop : Scf.Loop 32 :=
  let c0_i32_171 : BitVec 32 := 0#32
  let c16_i32_172 : BitVec 32 := 16#32
  let v473 : BitVec 32 := Scalar.addi c0_i32_171 c16_i32_172
  let c1_i32_173 : BitVec 32 := 1#32
  ⟨c0_i32_171, v473, c1_i32_173⟩
@[reducible] def k0_t32_loop : Scf.Loop 32 :=
  let c0_i32_176 : BitVec 32 := 0#32
  let c16_i32_177 : BitVec 32 := 16#32
  let v495 : BitVec 32 := Scalar.addi c0_i32_176 c16_i32_177
  let c1_i32_178 : BitVec 32 := 1#32
  ⟨c0_i32_176, v495, c1_i32_178⟩
@[reducible] def k0_t33_loop : Scf.Loop 32 :=
  let c0_i32_181 : BitVec 32 := 0#32
  let c16_i32_182 : BitVec 32 := 16#32
  let v498 : BitVec 32 := Scalar.addi c0_i32_181 c16_i32_182
  let c1_i32_183 : BitVec 32 := 1#32
  ⟨c0_i32_181, v498, c1_i32_183⟩
@[reducible] def k0_t34_loop : Scf.Loop 32 :=
  let c0_i32_186 : BitVec 32 := 0#32
  let c16_i32_187 : BitVec 32 := 16#32
  let v543 : BitVec 32 := Scalar.addi c0_i32_186 c16_i32_187
  let c1_i32_188 : BitVec 32 := 1#32
  ⟨c0_i32_186, v543, c1_i32_188⟩
@[reducible] def k0_t35_loop : Scf.Loop 32 :=
  let c0_i32_191 : BitVec 32 := 0#32
  let c16_i32_192 : BitVec 32 := 16#32
  let v546 : BitVec 32 := Scalar.addi c0_i32_191 c16_i32_192
  let c1_i32_193 : BitVec 32 := 1#32
  ⟨c0_i32_191, v546, c1_i32_193⟩
@[reducible] def k0_t36_loop : Scf.Loop 32 :=
  let c0_i32_196 : BitVec 32 := 0#32
  let c16_i32_197 : BitVec 32 := 16#32
  let v549 : BitVec 32 := Scalar.addi c0_i32_196 c16_i32_197
  let c1_i32_198 : BitVec 32 := 1#32
  ⟨c0_i32_196, v549, c1_i32_198⟩
@[reducible] def k0_t37_loop : Scf.Loop 32 :=
  let c0_i32_201 : BitVec 32 := 0#32
  let c16_i32_202 : BitVec 32 := 16#32
  let v552 : BitVec 32 := Scalar.addi c0_i32_201 c16_i32_202
  let c1_i32_203 : BitVec 32 := 1#32
  ⟨c0_i32_201, v552, c1_i32_203⟩
@[reducible] def k0_t38_loop : Scf.Loop 32 :=
  let c0_i32_210 : BitVec 32 := 0#32
  let c16_i32_211 : BitVec 32 := 16#32
  let v568 : BitVec 32 := Scalar.addi c0_i32_210 c16_i32_211
  let c1_i32_212 : BitVec 32 := 1#32
  ⟨c0_i32_210, v568, c1_i32_212⟩
@[reducible] def k0_t39_loop : Scf.Loop 32 :=
  let c0_i32_215 : BitVec 32 := 0#32
  let c16_i32_216 : BitVec 32 := 16#32
  let v571 : BitVec 32 := Scalar.addi c0_i32_215 c16_i32_216
  let c1_i32_217 : BitVec 32 := 1#32
  ⟨c0_i32_215, v571, c1_i32_217⟩
@[reducible] def k0_t40_loop : Scf.Loop 32 :=
  let c0_i32_220 : BitVec 32 := 0#32
  let c16_i32_221 : BitVec 32 := 16#32
  let v593 : BitVec 32 := Scalar.addi c0_i32_220 c16_i32_221
  let c1_i32_222 : BitVec 32 := 1#32
  ⟨c0_i32_220, v593, c1_i32_222⟩
@[reducible] def k0_t41_loop : Scf.Loop 32 :=
  let c0_i32_225 : BitVec 32 := 0#32
  let c16_i32_226 : BitVec 32 := 16#32
  let v596 : BitVec 32 := Scalar.addi c0_i32_225 c16_i32_226
  let c1_i32_227 : BitVec 32 := 1#32
  ⟨c0_i32_225, v596, c1_i32_227⟩
@[reducible] def k0_t42_loop : Scf.Loop 32 :=
  let c0_i32_230 : BitVec 32 := 0#32
  let c16_i32_231 : BitVec 32 := 16#32
  let v599 : BitVec 32 := Scalar.addi c0_i32_230 c16_i32_231
  let c1_i32_232 : BitVec 32 := 1#32
  ⟨c0_i32_230, v599, c1_i32_232⟩
@[reducible] def k0_t43_loop : Scf.Loop 32 :=
  let c0_i32_235 : BitVec 32 := 0#32
  let c16_i32_236 : BitVec 32 := 16#32
  let v602 : BitVec 32 := Scalar.addi c0_i32_235 c16_i32_236
  let c1_i32_237 : BitVec 32 := 1#32
  ⟨c0_i32_235, v602, c1_i32_237⟩
@[reducible] def k0_t44_loop : Scf.Loop 32 :=
  let c0_i32_240 : BitVec 32 := 0#32
  let c16_i32_241 : BitVec 32 := 16#32
  let v624 : BitVec 32 := Scalar.addi c0_i32_240 c16_i32_241
  let c1_i32_242 : BitVec 32 := 1#32
  ⟨c0_i32_240, v624, c1_i32_242⟩
@[reducible] def k0_t45_loop : Scf.Loop 32 :=
  let c0_i32_245 : BitVec 32 := 0#32
  let c16_i32_246 : BitVec 32 := 16#32
  let v627 : BitVec 32 := Scalar.addi c0_i32_245 c16_i32_246
  let c1_i32_247 : BitVec 32 := 1#32
  ⟨c0_i32_245, v627, c1_i32_247⟩
@[reducible] def k0_t46_loop : Scf.Loop 32 :=
  let c0_i32_250 : BitVec 32 := 0#32
  let c16_i32_251 : BitVec 32 := 16#32
  let v672 : BitVec 32 := Scalar.addi c0_i32_250 c16_i32_251
  let c1_i32_252 : BitVec 32 := 1#32
  ⟨c0_i32_250, v672, c1_i32_252⟩
@[reducible] def k0_t47_loop : Scf.Loop 32 :=
  let c0_i32_255 : BitVec 32 := 0#32
  let c16_i32_256 : BitVec 32 := 16#32
  let v675 : BitVec 32 := Scalar.addi c0_i32_255 c16_i32_256
  let c1_i32_257 : BitVec 32 := 1#32
  ⟨c0_i32_255, v675, c1_i32_257⟩
@[reducible] def k0_t48_loop : Scf.Loop 32 :=
  let c0_i32_260 : BitVec 32 := 0#32
  let c16_i32_261 : BitVec 32 := 16#32
  let v678 : BitVec 32 := Scalar.addi c0_i32_260 c16_i32_261
  let c1_i32_262 : BitVec 32 := 1#32
  ⟨c0_i32_260, v678, c1_i32_262⟩
@[reducible] def k0_t49_loop : Scf.Loop 32 :=
  let c0_i32_265 : BitVec 32 := 0#32
  let c16_i32_266 : BitVec 32 := 16#32
  let v681 : BitVec 32 := Scalar.addi c0_i32_265 c16_i32_266
  let c1_i32_267 : BitVec 32 := 1#32
  ⟨c0_i32_265, v681, c1_i32_267⟩
@[reducible] def k0_t50_loop : Scf.Loop 32 :=
  let c0_i32_270 : BitVec 32 := 0#32
  let c16_i32_271 : BitVec 32 := 16#32
  let v764 : BitVec 32 := Scalar.addi c0_i32_270 c16_i32_271
  let c1_i32_272 : BitVec 32 := 1#32
  ⟨c0_i32_270, v764, c1_i32_272⟩
@[reducible] def k0_t51_loop : Scf.Loop 32 :=
  let c0_i32_275 : BitVec 32 := 0#32
  let c16_i32_276 : BitVec 32 := 16#32
  let v767 : BitVec 32 := Scalar.addi c0_i32_275 c16_i32_276
  let c1_i32_277 : BitVec 32 := 1#32
  ⟨c0_i32_275, v767, c1_i32_277⟩
@[reducible] def k0_t52_loop : Scf.Loop 32 :=
  let c0_i32_280 : BitVec 32 := 0#32
  let c16_i32_281 : BitVec 32 := 16#32
  let v770 : BitVec 32 := Scalar.addi c0_i32_280 c16_i32_281
  let c1_i32_282 : BitVec 32 := 1#32
  ⟨c0_i32_280, v770, c1_i32_282⟩
@[reducible] def k0_t53_loop : Scf.Loop 32 :=
  let c0_i32_285 : BitVec 32 := 0#32
  let c16_i32_286 : BitVec 32 := 16#32
  let v773 : BitVec 32 := Scalar.addi c0_i32_285 c16_i32_286
  let c1_i32_287 : BitVec 32 := 1#32
  ⟨c0_i32_285, v773, c1_i32_287⟩
@[reducible] def k0_t54_loop : Scf.Loop 32 :=
  let c0_i32_290 : BitVec 32 := 0#32
  let c16_i32_291 : BitVec 32 := 16#32
  let v856 : BitVec 32 := Scalar.addi c0_i32_290 c16_i32_291
  let c1_i32_292 : BitVec 32 := 1#32
  ⟨c0_i32_290, v856, c1_i32_292⟩
@[reducible] def k0_t55_loop : Scf.Loop 32 :=
  let c0_i32_295 : BitVec 32 := 0#32
  let c16_i32_296 : BitVec 32 := 16#32
  let v859 : BitVec 32 := Scalar.addi c0_i32_295 c16_i32_296
  let c1_i32_297 : BitVec 32 := 1#32
  ⟨c0_i32_295, v859, c1_i32_297⟩
@[reducible] def k0_t56_loop : Scf.Loop 32 :=
  let c0_i32_300 : BitVec 32 := 0#32
  let c16_i32_301 : BitVec 32 := 16#32
  let v862 : BitVec 32 := Scalar.addi c0_i32_300 c16_i32_301
  let c1_i32_302 : BitVec 32 := 1#32
  ⟨c0_i32_300, v862, c1_i32_302⟩
@[reducible] def k0_t57_loop : Scf.Loop 32 :=
  let c0_i32_305 : BitVec 32 := 0#32
  let c16_i32_306 : BitVec 32 := 16#32
  let v865 : BitVec 32 := Scalar.addi c0_i32_305 c16_i32_306
  let c1_i32_307 : BitVec 32 := 1#32
  ⟨c0_i32_305, v865, c1_i32_307⟩
@[reducible] def k0_t58_loop : Scf.Loop 32 :=
  let c0_i32_310 : BitVec 32 := 0#32
  let c16_i32_311 : BitVec 32 := 16#32
  let v948 : BitVec 32 := Scalar.addi c0_i32_310 c16_i32_311
  let c1_i32_312 : BitVec 32 := 1#32
  ⟨c0_i32_310, v948, c1_i32_312⟩
@[reducible] def k0_t59_loop : Scf.Loop 32 :=
  let c0_i32_315 : BitVec 32 := 0#32
  let c16_i32_316 : BitVec 32 := 16#32
  let v951 : BitVec 32 := Scalar.addi c0_i32_315 c16_i32_316
  let c1_i32_317 : BitVec 32 := 1#32
  ⟨c0_i32_315, v951, c1_i32_317⟩
@[reducible] def k0_t60_loop : Scf.Loop 32 :=
  let c0_i32_320 : BitVec 32 := 0#32
  let c16_i32_321 : BitVec 32 := 16#32
  let v954 : BitVec 32 := Scalar.addi c0_i32_320 c16_i32_321
  let c1_i32_322 : BitVec 32 := 1#32
  ⟨c0_i32_320, v954, c1_i32_322⟩
@[reducible] def k0_t61_loop : Scf.Loop 32 :=
  let c0_i32_325 : BitVec 32 := 0#32
  let c16_i32_326 : BitVec 32 := 16#32
  let v957 : BitVec 32 := Scalar.addi c0_i32_325 c16_i32_326
  let c1_i32_327 : BitVec 32 := 1#32
  ⟨c0_i32_325, v957, c1_i32_327⟩
@[reducible] def k0_t62_loop : Scf.Loop 32 :=
  let c0_i32_330 : BitVec 32 := 0#32
  let c16_i32_331 : BitVec 32 := 16#32
  let v1040 : BitVec 32 := Scalar.addi c0_i32_330 c16_i32_331
  let c1_i32_332 : BitVec 32 := 1#32
  ⟨c0_i32_330, v1040, c1_i32_332⟩
@[reducible] def k0_t63_loop : Scf.Loop 32 :=
  let c0_i32_335 : BitVec 32 := 0#32
  let c16_i32_336 : BitVec 32 := 16#32
  let v1043 : BitVec 32 := Scalar.addi c0_i32_335 c16_i32_336
  let c1_i32_337 : BitVec 32 := 1#32
  ⟨c0_i32_335, v1043, c1_i32_337⟩
@[reducible] def k0_t64_loop : Scf.Loop 32 :=
  let c0_i32_340 : BitVec 32 := 0#32
  let c16_i32_341 : BitVec 32 := 16#32
  let v1046 : BitVec 32 := Scalar.addi c0_i32_340 c16_i32_341
  let c1_i32_342 : BitVec 32 := 1#32
  ⟨c0_i32_340, v1046, c1_i32_342⟩
@[reducible] def k0_t65_loop : Scf.Loop 32 :=
  let c0_i32_345 : BitVec 32 := 0#32
  let c16_i32_346 : BitVec 32 := 16#32
  let v1049 : BitVec 32 := Scalar.addi c0_i32_345 c16_i32_346
  let c1_i32_347 : BitVec 32 := 1#32
  ⟨c0_i32_345, v1049, c1_i32_347⟩
@[reducible] def k0_t66_loop : Scf.Loop 32 :=
  let c0_i32_354 : BitVec 32 := 0#32
  let c16_i32_355 : BitVec 32 := 16#32
  let v1064 : BitVec 32 := Scalar.addi c0_i32_354 c16_i32_355
  let c1_i32_356 : BitVec 32 := 1#32
  ⟨c0_i32_354, v1064, c1_i32_356⟩
@[reducible] def k0_t67_loop : Scf.Loop 32 :=
  let c0_i32_359 : BitVec 32 := 0#32
  let c16_i32_360 : BitVec 32 := 16#32
  let v1067 : BitVec 32 := Scalar.addi c0_i32_359 c16_i32_360
  let c1_i32_361 : BitVec 32 := 1#32
  ⟨c0_i32_359, v1067, c1_i32_361⟩
@[reducible] def k0_t68_loop : Scf.Loop 32 :=
  let c0_i32_364 : BitVec 32 := 0#32
  let c16_i32_365 : BitVec 32 := 16#32
  let v1089 : BitVec 32 := Scalar.addi c0_i32_364 c16_i32_365
  let c1_i32_366 : BitVec 32 := 1#32
  ⟨c0_i32_364, v1089, c1_i32_366⟩
@[reducible] def k0_t69_loop : Scf.Loop 32 :=
  let c0_i32_369 : BitVec 32 := 0#32
  let c16_i32_370 : BitVec 32 := 16#32
  let v1092 : BitVec 32 := Scalar.addi c0_i32_369 c16_i32_370
  let c1_i32_371 : BitVec 32 := 1#32
  ⟨c0_i32_369, v1092, c1_i32_371⟩
@[reducible] def k0_t70_loop : Scf.Loop 32 :=
  let c0_i32_374 : BitVec 32 := 0#32
  let c16_i32_375 : BitVec 32 := 16#32
  let v1095 : BitVec 32 := Scalar.addi c0_i32_374 c16_i32_375
  let c1_i32_376 : BitVec 32 := 1#32
  ⟨c0_i32_374, v1095, c1_i32_376⟩
@[reducible] def k0_t71_loop : Scf.Loop 32 :=
  let c0_i32_379 : BitVec 32 := 0#32
  let c16_i32_380 : BitVec 32 := 16#32
  let v1098 : BitVec 32 := Scalar.addi c0_i32_379 c16_i32_380
  let c1_i32_381 : BitVec 32 := 1#32
  ⟨c0_i32_379, v1098, c1_i32_381⟩
@[reducible] def k0_t72_loop : Scf.Loop 32 :=
  let c0_i32_384 : BitVec 32 := 0#32
  let c16_i32_385 : BitVec 32 := 16#32
  let v1120 : BitVec 32 := Scalar.addi c0_i32_384 c16_i32_385
  let c1_i32_386 : BitVec 32 := 1#32
  ⟨c0_i32_384, v1120, c1_i32_386⟩
@[reducible] def k0_t73_loop : Scf.Loop 32 :=
  let c0_i32_389 : BitVec 32 := 0#32
  let c16_i32_390 : BitVec 32 := 16#32
  let v1123 : BitVec 32 := Scalar.addi c0_i32_389 c16_i32_390
  let c1_i32_391 : BitVec 32 := 1#32
  ⟨c0_i32_389, v1123, c1_i32_391⟩
@[reducible] def k0_t74_loop : Scf.Loop 32 :=
  let c0_i32_394 : BitVec 32 := 0#32
  let c16_i32_395 : BitVec 32 := 16#32
  let v1168 : BitVec 32 := Scalar.addi c0_i32_394 c16_i32_395
  let c1_i32_396 : BitVec 32 := 1#32
  ⟨c0_i32_394, v1168, c1_i32_396⟩
@[reducible] def k0_t75_loop : Scf.Loop 32 :=
  let c0_i32_399 : BitVec 32 := 0#32
  let c16_i32_400 : BitVec 32 := 16#32
  let v1171 : BitVec 32 := Scalar.addi c0_i32_399 c16_i32_400
  let c1_i32_401 : BitVec 32 := 1#32
  ⟨c0_i32_399, v1171, c1_i32_401⟩
@[reducible] def k0_t76_loop : Scf.Loop 32 :=
  let c0_i32_404 : BitVec 32 := 0#32
  let c16_i32_405 : BitVec 32 := 16#32
  let v1174 : BitVec 32 := Scalar.addi c0_i32_404 c16_i32_405
  let c1_i32_406 : BitVec 32 := 1#32
  ⟨c0_i32_404, v1174, c1_i32_406⟩
@[reducible] def k0_t77_loop : Scf.Loop 32 :=
  let c0_i32_409 : BitVec 32 := 0#32
  let c16_i32_410 : BitVec 32 := 16#32
  let v1177 : BitVec 32 := Scalar.addi c0_i32_409 c16_i32_410
  let c1_i32_411 : BitVec 32 := 1#32
  ⟨c0_i32_409, v1177, c1_i32_411⟩
@[reducible] def k0_t78_loop : Scf.Loop 32 :=
  let c0_i32_419 : BitVec 32 := 0#32
  let c16_i32_420 : BitVec 32 := 16#32
  let v1193 : BitVec 32 := Scalar.addi c0_i32_419 c16_i32_420
  let c1_i32_421 : BitVec 32 := 1#32
  ⟨c0_i32_419, v1193, c1_i32_421⟩
@[reducible] def k0_t79_loop : Scf.Loop 32 :=
  let c0_i32_424 : BitVec 32 := 0#32
  let c16_i32_425 : BitVec 32 := 16#32
  let v1196 : BitVec 32 := Scalar.addi c0_i32_424 c16_i32_425
  let c1_i32_426 : BitVec 32 := 1#32
  ⟨c0_i32_424, v1196, c1_i32_426⟩
@[reducible] def k0_t80_loop : Scf.Loop 32 :=
  let c0_i32_429 : BitVec 32 := 0#32
  let c16_i32_430 : BitVec 32 := 16#32
  let v1218 : BitVec 32 := Scalar.addi c0_i32_429 c16_i32_430
  let c1_i32_431 : BitVec 32 := 1#32
  ⟨c0_i32_429, v1218, c1_i32_431⟩
@[reducible] def k0_t81_loop : Scf.Loop 32 :=
  let c0_i32_434 : BitVec 32 := 0#32
  let c16_i32_435 : BitVec 32 := 16#32
  let v1221 : BitVec 32 := Scalar.addi c0_i32_434 c16_i32_435
  let c1_i32_436 : BitVec 32 := 1#32
  ⟨c0_i32_434, v1221, c1_i32_436⟩
@[reducible] def k0_t82_loop : Scf.Loop 32 :=
  let c0_i32_439 : BitVec 32 := 0#32
  let c16_i32_440 : BitVec 32 := 16#32
  let v1224 : BitVec 32 := Scalar.addi c0_i32_439 c16_i32_440
  let c1_i32_441 : BitVec 32 := 1#32
  ⟨c0_i32_439, v1224, c1_i32_441⟩
@[reducible] def k0_t83_loop : Scf.Loop 32 :=
  let c0_i32_444 : BitVec 32 := 0#32
  let c16_i32_445 : BitVec 32 := 16#32
  let v1227 : BitVec 32 := Scalar.addi c0_i32_444 c16_i32_445
  let c1_i32_446 : BitVec 32 := 1#32
  ⟨c0_i32_444, v1227, c1_i32_446⟩
@[reducible] def k0_t84_loop : Scf.Loop 32 :=
  let c0_i32_449 : BitVec 32 := 0#32
  let c16_i32_450 : BitVec 32 := 16#32
  let v1249 : BitVec 32 := Scalar.addi c0_i32_449 c16_i32_450
  let c1_i32_451 : BitVec 32 := 1#32
  ⟨c0_i32_449, v1249, c1_i32_451⟩
@[reducible] def k0_t85_loop : Scf.Loop 32 :=
  let c0_i32_454 : BitVec 32 := 0#32
  let c16_i32_455 : BitVec 32 := 16#32
  let v1252 : BitVec 32 := Scalar.addi c0_i32_454 c16_i32_455
  let c1_i32_456 : BitVec 32 := 1#32
  ⟨c0_i32_454, v1252, c1_i32_456⟩
@[reducible] def k0_t86_loop : Scf.Loop 32 :=
  let c0_i32_459 : BitVec 32 := 0#32
  let c16_i32_460 : BitVec 32 := 16#32
  let v1297 : BitVec 32 := Scalar.addi c0_i32_459 c16_i32_460
  let c1_i32_461 : BitVec 32 := 1#32
  ⟨c0_i32_459, v1297, c1_i32_461⟩
@[reducible] def k0_t87_loop : Scf.Loop 32 :=
  let c0_i32_464 : BitVec 32 := 0#32
  let c16_i32_465 : BitVec 32 := 16#32
  let v1300 : BitVec 32 := Scalar.addi c0_i32_464 c16_i32_465
  let c1_i32_466 : BitVec 32 := 1#32
  ⟨c0_i32_464, v1300, c1_i32_466⟩
@[reducible] def k0_t88_loop : Scf.Loop 32 :=
  let c0_i32_469 : BitVec 32 := 0#32
  let c16_i32_470 : BitVec 32 := 16#32
  let v1303 : BitVec 32 := Scalar.addi c0_i32_469 c16_i32_470
  let c1_i32_471 : BitVec 32 := 1#32
  ⟨c0_i32_469, v1303, c1_i32_471⟩
@[reducible] def k0_t89_loop : Scf.Loop 32 :=
  let c0_i32_474 : BitVec 32 := 0#32
  let c16_i32_475 : BitVec 32 := 16#32
  let v1306 : BitVec 32 := Scalar.addi c0_i32_474 c16_i32_475
  let c1_i32_476 : BitVec 32 := 1#32
  ⟨c0_i32_474, v1306, c1_i32_476⟩
@[reducible] def k0_t90_loop : Scf.Loop 32 :=
  let c0_i32_484 : BitVec 32 := 0#32
  let c16_i32_485 : BitVec 32 := 16#32
  let v1322 : BitVec 32 := Scalar.addi c0_i32_484 c16_i32_485
  let c1_i32_486 : BitVec 32 := 1#32
  ⟨c0_i32_484, v1322, c1_i32_486⟩
@[reducible] def k0_t91_loop : Scf.Loop 32 :=
  let c0_i32_489 : BitVec 32 := 0#32
  let c16_i32_490 : BitVec 32 := 16#32
  let v1325 : BitVec 32 := Scalar.addi c0_i32_489 c16_i32_490
  let c1_i32_491 : BitVec 32 := 1#32
  ⟨c0_i32_489, v1325, c1_i32_491⟩
@[reducible] def k0_t92_loop : Scf.Loop 32 :=
  let c0_i32_494 : BitVec 32 := 0#32
  let c16_i32_495 : BitVec 32 := 16#32
  let v1347 : BitVec 32 := Scalar.addi c0_i32_494 c16_i32_495
  let c1_i32_496 : BitVec 32 := 1#32
  ⟨c0_i32_494, v1347, c1_i32_496⟩
@[reducible] def k0_t93_loop : Scf.Loop 32 :=
  let c0_i32_499 : BitVec 32 := 0#32
  let c16_i32_500 : BitVec 32 := 16#32
  let v1350 : BitVec 32 := Scalar.addi c0_i32_499 c16_i32_500
  let c1_i32_501 : BitVec 32 := 1#32
  ⟨c0_i32_499, v1350, c1_i32_501⟩
@[reducible] def k0_t94_loop : Scf.Loop 32 :=
  let c0_i32_504 : BitVec 32 := 0#32
  let c16_i32_505 : BitVec 32 := 16#32
  let v1353 : BitVec 32 := Scalar.addi c0_i32_504 c16_i32_505
  let c1_i32_506 : BitVec 32 := 1#32
  ⟨c0_i32_504, v1353, c1_i32_506⟩
@[reducible] def k0_t95_loop : Scf.Loop 32 :=
  let c0_i32_509 : BitVec 32 := 0#32
  let c16_i32_510 : BitVec 32 := 16#32
  let v1356 : BitVec 32 := Scalar.addi c0_i32_509 c16_i32_510
  let c1_i32_511 : BitVec 32 := 1#32
  ⟨c0_i32_509, v1356, c1_i32_511⟩
@[reducible] def k0_t96_loop : Scf.Loop 32 :=
  let c0_i32_514 : BitVec 32 := 0#32
  let c16_i32_515 : BitVec 32 := 16#32
  let v1378 : BitVec 32 := Scalar.addi c0_i32_514 c16_i32_515
  let c1_i32_516 : BitVec 32 := 1#32
  ⟨c0_i32_514, v1378, c1_i32_516⟩
@[reducible] def k0_t97_loop : Scf.Loop 32 :=
  let c0_i32_519 : BitVec 32 := 0#32
  let c16_i32_520 : BitVec 32 := 16#32
  let v1381 : BitVec 32 := Scalar.addi c0_i32_519 c16_i32_520
  let c1_i32_521 : BitVec 32 := 1#32
  ⟨c0_i32_519, v1381, c1_i32_521⟩
@[reducible] def k0_t98_loop : Scf.Loop 32 :=
  let c0_i32_524 : BitVec 32 := 0#32
  let c16_i32_525 : BitVec 32 := 16#32
  let v1426 : BitVec 32 := Scalar.addi c0_i32_524 c16_i32_525
  let c1_i32_526 : BitVec 32 := 1#32
  ⟨c0_i32_524, v1426, c1_i32_526⟩
@[reducible] def k0_t99_loop : Scf.Loop 32 :=
  let c0_i32_529 : BitVec 32 := 0#32
  let c16_i32_530 : BitVec 32 := 16#32
  let v1429 : BitVec 32 := Scalar.addi c0_i32_529 c16_i32_530
  let c1_i32_531 : BitVec 32 := 1#32
  ⟨c0_i32_529, v1429, c1_i32_531⟩
@[reducible] def k0_t100_loop : Scf.Loop 32 :=
  let c0_i32_534 : BitVec 32 := 0#32
  let c16_i32_535 : BitVec 32 := 16#32
  let v1432 : BitVec 32 := Scalar.addi c0_i32_534 c16_i32_535
  let c1_i32_536 : BitVec 32 := 1#32
  ⟨c0_i32_534, v1432, c1_i32_536⟩
@[reducible] def k0_t101_loop : Scf.Loop 32 :=
  let c0_i32_539 : BitVec 32 := 0#32
  let c16_i32_540 : BitVec 32 := 16#32
  let v1435 : BitVec 32 := Scalar.addi c0_i32_539 c16_i32_540
  let c1_i32_541 : BitVec 32 := 1#32
  ⟨c0_i32_539, v1435, c1_i32_541⟩
@[reducible] def k0_t102_loop : Scf.Loop 32 :=
  let c0_i32_549 : BitVec 32 := 0#32
  let c16_i32_550 : BitVec 32 := 16#32
  let v1451 : BitVec 32 := Scalar.addi c0_i32_549 c16_i32_550
  let c1_i32_551 : BitVec 32 := 1#32
  ⟨c0_i32_549, v1451, c1_i32_551⟩
@[reducible] def k0_t103_loop : Scf.Loop 32 :=
  let c0_i32_554 : BitVec 32 := 0#32
  let c16_i32_555 : BitVec 32 := 16#32
  let v1454 : BitVec 32 := Scalar.addi c0_i32_554 c16_i32_555
  let c1_i32_556 : BitVec 32 := 1#32
  ⟨c0_i32_554, v1454, c1_i32_556⟩
@[reducible] def k0_t104_loop : Scf.Loop 32 :=
  let c0_i32_559 : BitVec 32 := 0#32
  let c16_i32_560 : BitVec 32 := 16#32
  let v1476 : BitVec 32 := Scalar.addi c0_i32_559 c16_i32_560
  let c1_i32_561 : BitVec 32 := 1#32
  ⟨c0_i32_559, v1476, c1_i32_561⟩
@[reducible] def k0_t105_loop : Scf.Loop 32 :=
  let c0_i32_564 : BitVec 32 := 0#32
  let c16_i32_565 : BitVec 32 := 16#32
  let v1479 : BitVec 32 := Scalar.addi c0_i32_564 c16_i32_565
  let c1_i32_566 : BitVec 32 := 1#32
  ⟨c0_i32_564, v1479, c1_i32_566⟩
@[reducible] def k0_t106_loop : Scf.Loop 32 :=
  let c0_i32_569 : BitVec 32 := 0#32
  let c16_i32_570 : BitVec 32 := 16#32
  let v1482 : BitVec 32 := Scalar.addi c0_i32_569 c16_i32_570
  let c1_i32_571 : BitVec 32 := 1#32
  ⟨c0_i32_569, v1482, c1_i32_571⟩
@[reducible] def k0_t107_loop : Scf.Loop 32 :=
  let c0_i32_574 : BitVec 32 := 0#32
  let c16_i32_575 : BitVec 32 := 16#32
  let v1485 : BitVec 32 := Scalar.addi c0_i32_574 c16_i32_575
  let c1_i32_576 : BitVec 32 := 1#32
  ⟨c0_i32_574, v1485, c1_i32_576⟩
@[reducible] def k0_t108_loop : Scf.Loop 32 :=
  let c0_i32_579 : BitVec 32 := 0#32
  let c16_i32_580 : BitVec 32 := 16#32
  let v1507 : BitVec 32 := Scalar.addi c0_i32_579 c16_i32_580
  let c1_i32_581 : BitVec 32 := 1#32
  ⟨c0_i32_579, v1507, c1_i32_581⟩
@[reducible] def k0_t109_loop : Scf.Loop 32 :=
  let c0_i32_584 : BitVec 32 := 0#32
  let c16_i32_585 : BitVec 32 := 16#32
  let v1510 : BitVec 32 := Scalar.addi c0_i32_584 c16_i32_585
  let c1_i32_586 : BitVec 32 := 1#32
  ⟨c0_i32_584, v1510, c1_i32_586⟩
@[reducible] def k0_t110_loop : Scf.Loop 32 :=
  let c0_i32_589 : BitVec 32 := 0#32
  let c16_i32_590 : BitVec 32 := 16#32
  let v1555 : BitVec 32 := Scalar.addi c0_i32_589 c16_i32_590
  let c1_i32_591 : BitVec 32 := 1#32
  ⟨c0_i32_589, v1555, c1_i32_591⟩
@[reducible] def k0_t111_loop : Scf.Loop 32 :=
  let c0_i32_594 : BitVec 32 := 0#32
  let c16_i32_595 : BitVec 32 := 16#32
  let v1558 : BitVec 32 := Scalar.addi c0_i32_594 c16_i32_595
  let c1_i32_596 : BitVec 32 := 1#32
  ⟨c0_i32_594, v1558, c1_i32_596⟩
@[reducible] def k0_t112_loop : Scf.Loop 32 :=
  let c0_i32_599 : BitVec 32 := 0#32
  let c16_i32_600 : BitVec 32 := 16#32
  let v1561 : BitVec 32 := Scalar.addi c0_i32_599 c16_i32_600
  let c1_i32_601 : BitVec 32 := 1#32
  ⟨c0_i32_599, v1561, c1_i32_601⟩
@[reducible] def k0_t113_loop : Scf.Loop 32 :=
  let c0_i32_604 : BitVec 32 := 0#32
  let c16_i32_605 : BitVec 32 := 16#32
  let v1564 : BitVec 32 := Scalar.addi c0_i32_604 c16_i32_605
  let c1_i32_606 : BitVec 32 := 1#32
  ⟨c0_i32_604, v1564, c1_i32_606⟩
@[reducible] def k0_t114_loop : Scf.Loop 32 :=
  let c0_i32_609 : BitVec 32 := 0#32
  let c16_i32_610 : BitVec 32 := 16#32
  let v1647 : BitVec 32 := Scalar.addi c0_i32_609 c16_i32_610
  let c1_i32_611 : BitVec 32 := 1#32
  ⟨c0_i32_609, v1647, c1_i32_611⟩
@[reducible] def k0_t115_loop : Scf.Loop 32 :=
  let c0_i32_614 : BitVec 32 := 0#32
  let c16_i32_615 : BitVec 32 := 16#32
  let v1650 : BitVec 32 := Scalar.addi c0_i32_614 c16_i32_615
  let c1_i32_616 : BitVec 32 := 1#32
  ⟨c0_i32_614, v1650, c1_i32_616⟩
@[reducible] def k0_t116_loop : Scf.Loop 32 :=
  let c0_i32_619 : BitVec 32 := 0#32
  let c16_i32_620 : BitVec 32 := 16#32
  let v1653 : BitVec 32 := Scalar.addi c0_i32_619 c16_i32_620
  let c1_i32_621 : BitVec 32 := 1#32
  ⟨c0_i32_619, v1653, c1_i32_621⟩
@[reducible] def k0_t117_loop : Scf.Loop 32 :=
  let c0_i32_624 : BitVec 32 := 0#32
  let c16_i32_625 : BitVec 32 := 16#32
  let v1656 : BitVec 32 := Scalar.addi c0_i32_624 c16_i32_625
  let c1_i32_626 : BitVec 32 := 1#32
  ⟨c0_i32_624, v1656, c1_i32_626⟩
@[reducible] def k0_t118_loop : Scf.Loop 32 :=
  let c0_i32_629 : BitVec 32 := 0#32
  let c16_i32_630 : BitVec 32 := 16#32
  let v1739 : BitVec 32 := Scalar.addi c0_i32_629 c16_i32_630
  let c1_i32_631 : BitVec 32 := 1#32
  ⟨c0_i32_629, v1739, c1_i32_631⟩
@[reducible] def k0_t119_loop : Scf.Loop 32 :=
  let c0_i32_634 : BitVec 32 := 0#32
  let c16_i32_635 : BitVec 32 := 16#32
  let v1742 : BitVec 32 := Scalar.addi c0_i32_634 c16_i32_635
  let c1_i32_636 : BitVec 32 := 1#32
  ⟨c0_i32_634, v1742, c1_i32_636⟩
@[reducible] def k0_t120_loop : Scf.Loop 32 :=
  let c0_i32_639 : BitVec 32 := 0#32
  let c16_i32_640 : BitVec 32 := 16#32
  let v1745 : BitVec 32 := Scalar.addi c0_i32_639 c16_i32_640
  let c1_i32_641 : BitVec 32 := 1#32
  ⟨c0_i32_639, v1745, c1_i32_641⟩
@[reducible] def k0_t121_loop : Scf.Loop 32 :=
  let c0_i32_644 : BitVec 32 := 0#32
  let c16_i32_645 : BitVec 32 := 16#32
  let v1748 : BitVec 32 := Scalar.addi c0_i32_644 c16_i32_645
  let c1_i32_646 : BitVec 32 := 1#32
  ⟨c0_i32_644, v1748, c1_i32_646⟩
@[reducible] def k0_t122_loop : Scf.Loop 32 :=
  let c0_i32_649 : BitVec 32 := 0#32
  let c16_i32_650 : BitVec 32 := 16#32
  let v1831 : BitVec 32 := Scalar.addi c0_i32_649 c16_i32_650
  let c1_i32_651 : BitVec 32 := 1#32
  ⟨c0_i32_649, v1831, c1_i32_651⟩
@[reducible] def k0_t123_loop : Scf.Loop 32 :=
  let c0_i32_654 : BitVec 32 := 0#32
  let c16_i32_655 : BitVec 32 := 16#32
  let v1834 : BitVec 32 := Scalar.addi c0_i32_654 c16_i32_655
  let c1_i32_656 : BitVec 32 := 1#32
  ⟨c0_i32_654, v1834, c1_i32_656⟩
@[reducible] def k0_t124_loop : Scf.Loop 32 :=
  let c0_i32_659 : BitVec 32 := 0#32
  let c16_i32_660 : BitVec 32 := 16#32
  let v1837 : BitVec 32 := Scalar.addi c0_i32_659 c16_i32_660
  let c1_i32_661 : BitVec 32 := 1#32
  ⟨c0_i32_659, v1837, c1_i32_661⟩
@[reducible] def k0_t125_loop : Scf.Loop 32 :=
  let c0_i32_664 : BitVec 32 := 0#32
  let c16_i32_665 : BitVec 32 := 16#32
  let v1840 : BitVec 32 := Scalar.addi c0_i32_664 c16_i32_665
  let c1_i32_666 : BitVec 32 := 1#32
  ⟨c0_i32_664, v1840, c1_i32_666⟩
@[reducible] def k0_t126_loop : Scf.Loop 32 :=
  let c0_i32_669 : BitVec 32 := 0#32
  let c16_i32_670 : BitVec 32 := 16#32
  let v1923 : BitVec 32 := Scalar.addi c0_i32_669 c16_i32_670
  let c1_i32_671 : BitVec 32 := 1#32
  ⟨c0_i32_669, v1923, c1_i32_671⟩
@[reducible] def k0_t127_loop : Scf.Loop 32 :=
  let c0_i32_674 : BitVec 32 := 0#32
  let c16_i32_675 : BitVec 32 := 16#32
  let v1926 : BitVec 32 := Scalar.addi c0_i32_674 c16_i32_675
  let c1_i32_676 : BitVec 32 := 1#32
  ⟨c0_i32_674, v1926, c1_i32_676⟩
@[reducible] def k0_t128_loop : Scf.Loop 32 :=
  let c0_i32_679 : BitVec 32 := 0#32
  let c16_i32_680 : BitVec 32 := 16#32
  let v1929 : BitVec 32 := Scalar.addi c0_i32_679 c16_i32_680
  let c1_i32_681 : BitVec 32 := 1#32
  ⟨c0_i32_679, v1929, c1_i32_681⟩
@[reducible] def k0_t129_loop : Scf.Loop 32 :=
  let c0_i32_684 : BitVec 32 := 0#32
  let c16_i32_685 : BitVec 32 := 16#32
  let v1932 : BitVec 32 := Scalar.addi c0_i32_684 c16_i32_685
  let c1_i32_686 : BitVec 32 := 1#32
  ⟨c0_i32_684, v1932, c1_i32_686⟩
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_15_r0 : BitVec 32 := 0#32
  ![v2.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32 : BitVec 32 := 1#32
  let v3 : BitVec 32 := Scalar.addi v2 c1_i32
  let c0_i32_15_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x8192 : Shape := ⟨2, ![64, 8192]⟩
abbrev S64x64 : Shape := ⟨2, ![64, 64]⟩

abbrev nBuf : Space → Nat
  | .hbm => 4
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S64x8192, .f32⟩
  | .hbm, ⟨3, _⟩ => ⟨S64x64, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Net.lean ====
/-
  The kernel's network, as functions over sixteen-lane vectors of any float values `F`: the ascending sort of one vector
  (sixteen insertions), its reversal, the bitonic merges of sorted runs of 16 and of 32, the sorted chunk of 64, the
  64 largest of two sorted runs of 64, and one group's step of one row's running 64.
-/
module

public import proofs.«01_k».proof.Proof.Gen.KernelIdeal
public import Idealize.ShloMosaic.Lib.Scf

@[expose] public section

noncomputable section

namespace Cert.Proof.Net

open Cert.KernelIdeal Cert.KernelIdeal.Gen
open Idealize.ShloMosaic

variable {F : FTy → Type} [FloatOps F]

/-- A vector register of sixteen floats. -/
abbrev V16 (F : FTy → Type) : Type := FVec F S16 .f32

/-- One insertion: lane 0 of the first vector goes to its place in the second, and the first turns by one lane. -/
def insert (p : V16 F × V16 F) : V16 F × V16 F :=
  (concatenate S16 0 [⟨S15, extractStridedSlice S15 ![1] p.1 slices_S16_o1_S15⟩,
      ⟨S1, extractStridedSlice S1 ![0] p.1 slices_S16_o0_S1⟩] concatenates_S15_S1_S16_d0,
    minimumf p.2 (maximumf
      (concatenate S16 0 [⟨S1, extractStridedSlice S1 ![0] p.1 slices_S16_o0_S1⟩,
        ⟨S15, extractStridedSlice S15 ![0] p.2 slices_S16_o0_S15⟩] concatenates_S1_S15_S16_d0)
      (broadcast S16 (extractAt ![0] (extractStridedSlice S1 ![0] p.1 slices_S16_o0_S1) inpos_S1_p0))))

/-- The vector sorted ascending: sixteen insertions into lanes of plus infinity. -/
def vsort (v : V16 F) : V16 F :=
  (Scf.fold (n := 16) (fun _ p => insert p) (v, broadcast S16 (Scalar.ofBits .f32 0x7F800000#32))).2

/-- The vector reversed. -/
def rev (v : V16 F) : V16 F :=
  concatenate S16 0 [
      ⟨S1, extractStridedSlice S1 ![15] v slices_S16_o15_S1⟩,
      ⟨S1, extractStridedSlice S1 ![14] v slices_S16_o14_S1⟩,
      ⟨S1, extractStridedSlice S1 ![13] v slices_S16_o13_S1⟩,
      ⟨S1, extractStridedSlice S1 ![12] v slices_S16_o12_S1⟩,
      ⟨S1, extractStridedSlice S1 ![11] v slices_S16_o11_S1⟩,
      ⟨S1, extractStridedSlice S1 ![10] v slices_S16_o10_S1⟩,
      ⟨S1, extractStridedSlice S1 ![9] v slices_S16_o9_S1⟩,
      ⟨S1, extractStridedSlice S1 ![8] v slices_S16_o8_S1⟩,
      ⟨S1, extractStridedSlice S1 ![7] v slices_S16_o7_S1⟩,
      ⟨S1, extractStridedSlice S1 ![6] v slices_S16_o6_S1⟩,
      ⟨S1, extractStridedSlice S1 ![5] v slices_S16_o5_S1⟩,
      ⟨S1, extractStridedSlice S1 ![4] v slices_S16_o4_S1⟩,
      ⟨S1, extractStridedSlice S1 ![3] v slices_S16_o3_S1⟩,
      ⟨S1, extractStridedSlice S1 ![2] v slices_S16_o2_S1⟩,
      ⟨S1, extractStridedSlice S1 ![1] v slices_S16_o1_S1⟩,
      ⟨S1, extractStridedSlice S1 ![0] v slices_S16_o0_S1⟩] concatenates_S1_S1_S1_S1_S1_S1_S1_S1_S1_S1_S1_S1_S1_S1_S1_S1_S16_d0

/-- Two sorted vectors merged into a sorted run of 32. -/
def merge2 (a b : V16 F) : V16 F × V16 F :=
  (vsort (minimumf a (rev b)), vsort (maximumf a (rev b)))

/-- Two sorted runs of 32 merged into a sorted run of 64. -/
def merge4 (a0 a1 b0 b1 : V16 F) : V16 F × V16 F × V16 F × V16 F :=
  (vsort (minimumf (minimumf a0 (rev b1)) (minimumf a1 (rev b0))),
    vsort (maximumf (minimumf a0 (rev b1)) (minimumf a1 (rev b0))),
    vsort (minimumf (maximumf a0 (rev b1)) (maximumf a1 (rev b0))),
    vsort (maximumf (maximumf a0 (rev b1)) (maximumf a1 (rev b0))))

/-- Four vectors sorted into a run of 64. -/
def sort64 (c : V16 F × V16 F × V16 F × V16 F) : V16 F × V16 F × V16 F × V16 F :=
  merge4 (merge2 (vsort c.1) (vsort c.2.1)).1 (merge2 (vsort c.1) (vsort c.2.1)).2
    (merge2 (vsort c.2.2.1) (vsort c.2.2.2)).1 (merge2 (vsort c.2.2.1) (vsort c.2.2.2)).2

/-- The largest 64 of two sorted runs of 64, before their blocks are sorted. -/
def halves (h0 h1 h2 h3 : V16 F) : V16 F × V16 F × V16 F × V16 F :=
  (vsort (minimumf (minimumf h0 h2) (minimumf h1 h3)), vsort (maximumf (minimumf h0 h2) (minimumf h1 h3)),
    vsort (minimumf (maximumf h0 h2) (maximumf h1 h3)), vsort (maximumf (maximumf h0 h2) (maximumf h1 h3)))

/-- The largest 64 of two sorted runs of 64, sorted. -/
def keepTop64 (r c : V16 F × V16 F × V16 F × V16 F) : V16 F × V16 F × V16 F × V16 F :=
  halves (maximumf r.1 (rev c.2.2.2)) (maximumf r.2.1 (rev c.2.2.1)) (maximumf r.2.2.1 (rev c.2.1)) (maximumf r.2.2.2 (rev c.1))

/-- The largest 64 of a group of 256, sorted. -/
def groupTop64 (c0 c1 c2 c3 : V16 F × V16 F × V16 F × V16 F) : V16 F × V16 F × V16 F × V16 F :=
  keepTop64 (keepTop64 (sort64 c0) (sort64 c1)) (keepTop64 (sort64 c2) (sort64 c3))

end Cert.Proof.Net

end
-- ==== Proof.Trip.lean ====
/-
  One trip of the kernel's loop over a row's groups: from the two rows in the tile's scratch, the eight carried vectors
  step to the running 64 of each row with the trip's group taken in.
-/
module

public import proofs.«01_k».proof.Proof.Net
public import Idealize.ShloMosaic.Lib.SparseCore.Quiescent
public import Idealize.ShloMosaic.Lib.Pipeline.Regions
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.Top

open Cert.KernelIdeal Cert.KernelIdeal.Gen Cert.Proof.Net

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The launch handshakes' rounds beside the transfers' counters: the certificate's ghost state. -/
abbrev UH : Type := URounds (GSem nD τ sig) ℕ
abbrev UU : Type := UH × Counters

local notation "𝕄" => MT nD τ sig (HIx 1) (Elt F) ℕ UU ℕ

abbrev xV : Memref sig .scVector .hbm S64x8192 .f32 := Memref.whole main_arg0_scv
abbrev oV : Memref sig .scVector .hbm S64x64 .f32 := Memref.whole main_v0_scv
abbrev aV : Memref sig .scVector .vmem S8192 .f32 := Memref.whole cc0_scratch0
abbrev bV : Memref sig .scVector .vmem S8192 .f32 := Memref.whole cc0_scratch1
abbrev uV : Memref sig .scVector .vmem S64 .f32 := Memref.whole cc0_scratch2
abbrev wV : Memref sig .scVector .vmem S64 .f32 := Memref.whole cc0_scratch3

variable [FloatOps F]

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

abbrev Acc (F : FTy → Type) : Type := V16 F × V16 F × V16 F × V16 F × V16 F × V16 F × V16 F × V16 F

/-- Sixteen lanes of a row, from an offset. -/
def lanes (x : S8192.Idx → Elt F .f32) (off : Fin 1 → Nat) (h : ∀ a, off a + S16.size a ≤ S8192.size a) : V16 F :=
  fun y => x ((Rect.unit (s := S8192) off S16.size h).emb y)

/-- The same lanes as a load of row scratch reads them. -/
def loaded (M : Memref sig .scVector .vmem S8192 .f32) (f : M.view.ty.Contents (Elt F)) (off : Fin 1 → Nat) (h : ∀ a, off a + S16.size a ≤ S8192.size a) : V16 F :=
  M.view.readAt (Elt F) (Rect.unit (s := S8192) off S16.size h).toLoadRect f

/-- Trip `k`'s group of a row read by `l`: four chunks of four vectors; the group's largest 64, sorted. -/
def groupOf (l : ∀ off : Fin 1 → Nat, (∀ a, off a + S16.size a ≤ S8192.size a) → V16 F) (k : Fin k0_t1_loop.trips) : V16 F × V16 F × V16 F × V16 F :=
  groupTop64
    (l (k0_off3 k 0#32) (k0_off3_inb k 0), l (k0_off3 k 16#32) (k0_off3_inb k 1), l (k0_off3 k 32#32) (k0_off3_inb k 2), l (k0_off3 k 48#32) (k0_off3_inb k 3))
    (l (k0_off4 k 64#32 0#32) (k0_off4_inb k 0 0), l (k0_off4 k 64#32 16#32) (k0_off4_inb k 0 1), l (k0_off4 k 64#32 32#32) (k0_off4_inb k 0 2), l (k0_off4 k 64#32 48#32) (k0_off4_inb k 0 3))
    (l (k0_off4 k 128#32 0#32) (k0_off4_inb k 1 0), l (k0_off4 k 128#32 16#32) (k0_off4_inb k 1 1), l (k0_off4 k 128#32 32#32) (k0_off4_inb k 1 2), l (k0_off4 k 128#32 48#32) (k0_off4_inb k 1 3))
    (l (k0_off4 k 192#32 0#32) (k0_off4_inb k 2 0), l (k0_off4 k 192#32 16#32) (k0_off4_inb k 2 1), l (k0_off4 k 192#32 32#32) (k0_off4_inb k 2 2), l (k0_off4 k 192#32 48#32) (k0_off4_inb k 2 3))

/-- One row's step: its carried 64 with a group's largest 64 taken in. -/
def rowStep (l : ∀ off : Fin 1 → Nat, (∀ a, off a + S16.size a ≤ S8192.size a) → V16 F) (k : Fin k0_t1_loop.trips)
    (r : V16 F × V16 F × V16 F × V16 F) : V16 F × V16 F × V16 F × V16 F :=
  keepTop64 r (groupOf l k)

/-- The two rows' carried vectors, in the loop's one tuple. -/
def both (a b : V16 F × V16 F × V16 F × V16 F) : Acc F :=
  (a.1, a.2.1, a.2.2.1, a.2.2.2, b.1, b.2.1, b.2.2.1, b.2.2.2)

set_option sl_exec.resultNames true in
theorem trip (d : Dev nD) (L : grid0.Coords) (k : Fin k0_t1_loop.trips) (fa : Buf (Elt F) ((aV).view.loc (VT d L))) (fb : Buf (Elt F) ((bV).view.loc (VT d L)))
    (r s : V16 F × V16 F × V16 F × V16 F) :
    (iprop(((aV).view.loc (VT d L) ↦[(aV).view.set]{fullShare} fa) ∗ ((bV).view.loc (VT d L) ↦[(bV).view.set]{fullShare} fb)) : sProp 𝕄)
      ⊢ wp frame (wpE (defs₀ (F := F)) Variants.none (VT d L) none) Set.univ
          (k0_t1_body L xV (Memref.isWhole_whole _) oV (Memref.isWhole_whole _) aV (Memref.isWhole_whole _)
            bV (Memref.isWhole_whole _) uV (Memref.isWhole_whole _) wV (Memref.isWhole_whole _) cc0_scratch4 cc0_scratch5 cc0_scoped0 cc0_scoped1 k (both r s))
          fun z => iprop(⌜z = both (rowStep (loaded (aV) fa) k r) (rowStep (loaded (bV) fb) k s)⌝ ∗ ((aV).view.loc (VT d L) ↦[(aV).view.set]{fullShare} fa) ∗ ((bV).view.loc (VT d L) ↦[(bV).view.set]{fullShare} fb)) := by
  obtain ⟨r0, r1, r2, r3⟩ := r
  obtain ⟨s0, s1, s2, s3⟩ := s
  unfold both
  iintro ⟨HA, HB⟩
  unfold k0_t1_body
  sl_exec_parts
  sl_step
  isplitr
  · ipureintro
    chain_rfl
  isplitl [HA]; · iexact HA
  iexact HB

end Cert.Proof.Top

end
-- ==== Proof.Tile.lean ====
/-
  One tile's task: the two rows fetched, the loop over their groups, the two results stored and copied out.
-/
module

public import proofs.«01_k».proof.Proof.Trip
public import Idealize.ShloMosaic.Lib.ValueIdxCore
public import Idealize.ShloMosaic.Lib.Writes

@[expose] public section

noncomputable section

namespace Cert.Proof.Top

open Cert.KernelIdeal Cert.KernelIdeal.Gen Cert.Proof.Net

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1)

variable {F : FTy → Type}

local notation "𝕄" => MT nD τ sig (HIx 1) (Elt F) ℕ UU ℕ

variable [FloatOps F]

/-- The row that loads see once row `x` has landed in scratch. -/
theorem loaded_landed (M : Memref sig .scVector .vmem S8192 .f32) (g : M.view.ty.Contents (Elt F)) (x : S8192.Idx → Elt F .f32) :
    loaded M (M.view.writes (Elt F) g [⟨Rect.whole S8192, x⟩]) = lanes x := by
  funext off h y
  unfold loaded lanes
  rw [View.readAt_apply, View.read_writes_whole]
  rfl

/-- A row's carried vectors before trip `n`: from minus infinity, one step for each group. -/
def carried (x : S8192.Idx → Elt F .f32) : Nat → V16 F × V16 F × V16 F × V16 F
  | 0 => (broadcast S16 (Scalar.ofBits .f32 0xFF800000#32), broadcast S16 (Scalar.ofBits .f32 0xFF800000#32),
      broadcast S16 (Scalar.ofBits .f32 0xFF800000#32), broadcast S16 (Scalar.ofBits .f32 0xFF800000#32))
  | n + 1 => if h : n < k0_t1_loop.trips then rowStep (lanes x) ⟨n, h⟩ (carried x n) else carried x n

/-- Block `n` of four vectors of sixteen. -/
def block (v : V16 F × V16 F × V16 F × V16 F) : Nat → V16 F
  | 0 => v.1
  | 1 => v.2.1
  | 2 => v.2.2.1
  | _ => v.2.2.2

/-- Sixty-four lanes of four vectors of sixteen. -/
def flat (v : V16 F × V16 F × V16 F × V16 F) (n : Nat) : Elt F .f32 :=
  block v (n / 16) (ix1 ⟨n % 16, Nat.mod_lt _ (by decide)⟩)

/-- The vectors of a row, largest first. -/
def turned (r : V16 F × V16 F × V16 F × V16 F) : V16 F × V16 F × V16 F × V16 F :=
  (rev r.2.2.2, rev r.2.2.1, rev r.2.1, rev r.1)

/-- The row of 64 the task writes for row `x`. -/
def rowOut (x : S8192.Idx → Elt F .f32) (y : S64.Idx) : Elt F .f32 :=
  flat (turned (carried x k0_t1_loop.trips)) (y 0).val

/-- What the tasks together write, from the whole of `x`. -/
def res (fx : S64x8192.Idx → Elt F .f32) (i : S64x64.Idx) : Elt F .f32 :=
  rowOut (fun y => fx (ix2 (i 0) (y 0))) (ix1 (i 1))

/-- The result buffer after a row's four stores reads as the row. -/
theorem read_stores (M : Memref sig .scVector .vmem S64 .f32) (g : M.view.ty.Contents (Elt F)) (v : V16 F × V16 F × V16 F × V16 F) :
    M.view.read (Elt F) (M.view.writes (Elt F) g
        [⟨Rect.unit (s := S64) ![48] S16.size inb_S64_S16_48, v.2.2.2⟩, ⟨Rect.unit (s := S64) ![32] S16.size inb_S64_S16_32, v.2.2.1⟩,
          ⟨Rect.unit (s := S64) ![16] S16.size inb_S64_S16_16, v.2.1⟩, ⟨Rect.unit (s := S64) ![0] S16.size inb_S64_S16_0, v.1⟩])
      = fun y => flat v (y 0).val := by
  have key : ∀ (o n : Nat) (h : ∀ a, (![o] : Fin 1 → Nat) a + S16.size a ≤ S64.size a), o = 16 * n → ∀ x : S16.Idx,
      block v n x = flat v (((Rect.unit (s := S64) ![o] S16.size h).emb x) 0).val := by
    intro o n h ho x
    have hx : (x 0).val < 16 := (x 0).isLt
    have e : (((Rect.unit (s := S64) ![o] S16.size h).emb x) 0).val = 16 * n + (x 0).val := by
      show o + 1 * (x 0).val = _; omega
    rw [e]; unfold flat
    rw [show (16 * n + (x 0).val) / 16 = n by omega]
    congr 1
    refine (eq_ix1 x).trans (congrArg ix1 (Fin.ext ?_))
    show (x 0).val = (16 * n + (x 0).val) % 16
    omega
  funext y
  refine View.read_writes_apply_of_pieces M.view g (fun y => flat v (y 0).val) _ ?_ y (View.cover_of_tiled (s := S64) _ S16.size ?_ y)
  · simp only [List.forall_mem_cons, List.not_mem_nil, false_imp_iff, implies_true, and_true]
    exact ⟨key 48 3 _ rfl, key 32 2 _ rfl, key 16 1 _ rfl, key 0 0 _ rfl⟩
  · rfl

section Tile

variable (d : Dev nD) (L : grid0.Coords)

abbrev xRect1 : Rect S64x8192 := Rect.unit (s := S64x8192) (k0_off1 L) S1x8192.size (k0_off1_inb L)
abbrev xRect2 : Rect S64x8192 := Rect.unit (s := S64x8192) (k0_off2 L) S1x8192.size (k0_off2_inb L)
abbrev oRect1 : Rect S64x64 := Rect.unit (s := S64x64) (k0_off5 L) S1x64.size (k0_off5_inb L)
abbrev oRect2 : Rect S64x64 := Rect.unit (s := S64x64) (k0_off6 L) S1x64.size (k0_off6_inb L)
/-- The task's two rows of `x` and of `o`, as the body slices them. -/
abbrev xRow1 : Memref sig .scVector .hbm S8192 .f32 := ((xV).slice (xRect1 L) (fun _ => rfl)).squeeze S8192 squeezes_S1x8192_S8192
abbrev xRow2 : Memref sig .scVector .hbm S8192 .f32 := ((xV).slice (xRect2 L) (fun _ => rfl)).squeeze S8192 squeezes_S1x8192_S8192
abbrev oRow1 : Memref sig .scVector .hbm S64 .f32 := ((oV).slice (oRect1 L) (fun _ => rfl)).squeeze S64 squeezes_S1x64_S64
abbrev oRow2 : Memref sig .scVector .hbm S64 .f32 := ((oV).slice (oRect2 L) (fun _ => rfl)).squeeze S64 squeezes_S1x64_S64

abbrev csem (k : Nat) (hk : k < 4 := by decide) : DmaSem sig := ⟨k, hk⟩
/-- The task's four cells at zero. -/
abbrev cells0 : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0)

/-- Row scratch once row `x` has landed in it. -/
abbrev landed (M : Memref sig .scVector .vmem S8192 .f32) (x : S8192.Idx → Elt F .f32) : Buf (Elt F) (M.view.loc (VT d L)) :=
  M.view.writes (Elt F) M.view.junk [⟨Rect.whole S8192, x⟩]

/-- The loop's invariant: the two rows in scratch, the carried vectors those of the rows' groups so far. -/
def inv (x1 x2 : S8192.Idx → Elt F .f32) (n : Nat) (z : Acc F) : sProp 𝕄 :=
  iprop(⌜z = both (carried x1 n) (carried x2 n)⌝ ∗ ((aV).view.loc (VT d L) ↦[(aV).view.set]{fullShare} landed d L aV x1)
    ∗ ((bV).view.loc (VT d L) ↦[(bV).view.set]{fullShare} landed d L bV x2))

/-- The place of a lane of the task's rows. -/
theorem emb_xRow1 (y : S8192.Idx) (r : Fin 64) (hr : r.val = 4 * (L 1).val + 2 * (L 0).val) : (xRow1 L).view.emb y = ix2 r (y 0) := by
  show (xRect1 L).emb (Shape.reshapeEquiv squeezes_S1x8192_S8192.numel_eq y) = _
  rw [Shape.reshapeEquiv_cons_one (d := ![8192])]
  refine Rect.emb_eq_of_coords _ _ _ fun a => ?_
  match a with
  | ⟨0, _⟩ => show r.val = k0_off1 L 0 + 1 * 0; rw [k0_off1_eq, hr]; rfl
  | ⟨1, _⟩ => show (y 0).val = k0_off1 L 1 + 1 * (y 0).val; rw [k0_off1_eq]; show _ = 0 + 1 * (y 0).val; omega
theorem emb_xRow2 (y : S8192.Idx) (r : Fin 64) (hr : r.val = 4 * (L 1).val + 2 * (L 0).val + 1) : (xRow2 L).view.emb y = ix2 r (y 0) := by
  show (xRect2 L).emb (Shape.reshapeEquiv squeezes_S1x8192_S8192.numel_eq y) = _
  rw [Shape.reshapeEquiv_cons_one (d := ![8192])]
  refine Rect.emb_eq_of_coords _ _ _ fun a => ?_
  match a with
  | ⟨0, _⟩ => show r.val = k0_off2 L 0 + 1 * 0; rw [k0_off2_eq, hr]; rfl
  | ⟨1, _⟩ => show (y 0).val = k0_off2 L 1 + 1 * (y 0).val; rw [k0_off2_eq]; show _ = 0 + 1 * (y 0).val; omega
theorem emb_oRow1 (y : S64.Idx) (r : Fin 64) (hr : r.val = 4 * (L 1).val + 2 * (L 0).val) : (oRow1 L).view.emb y = ix2 r (y 0) := by
  show (oRect1 L).emb (Shape.reshapeEquiv squeezes_S1x64_S64.numel_eq y) = _
  rw [Shape.reshapeEquiv_cons_one (d := ![64])]
  refine Rect.emb_eq_of_coords _ _ _ fun a => ?_
  match a with
  | ⟨0, _⟩ => show r.val = k0_off5 L 0 + 1 * 0; rw [k0_off5_eq, hr]; rfl
  | ⟨1, _⟩ => show (y 0).val = k0_off5 L 1 + 1 * (y 0).val; rw [k0_off5_eq]; show _ = 0 + 1 * (y 0).val; omega
theorem emb_oRow2 (y : S64.Idx) (r : Fin 64) (hr : r.val = 4 * (L 1).val + 2 * (L 0).val + 1) : (oRow2 L).view.emb y = ix2 r (y 0) := by
  show (oRect2 L).emb (Shape.reshapeEquiv squeezes_S1x64_S64.numel_eq y) = _
  rw [Shape.reshapeEquiv_cons_one (d := ![64])]
  refine Rect.emb_eq_of_coords _ _ _ fun a => ?_
  match a with
  | ⟨0, _⟩ => show r.val = k0_off6 L 0 + 1 * 0; rw [k0_off6_eq, hr]; rfl
  | ⟨1, _⟩ => show (y 0).val = k0_off6 L 1 + 1 * (y 0).val; rw [k0_off6_eq]; show _ = 0 + 1 * (y 0).val; omega

set_option sl_exec.resultNames true in
theorem tile_run (fx : Buf (Elt F) ((xV).view.loc (VT d L))) (fo : Buf (Elt F) ((oV).view.loc (VT d L)))
    (ga : Buf (Elt F) ((aV).view.loc (VT d L))) (gb : Buf (Elt F) ((bV).view.loc (VT d L)))
    (gu : Buf (Elt F) ((uV).view.loc (VT d L))) (gw : Buf (Elt F) ((wV).view.loc (VT d L)))
    (O : CellTallies nD τ sig (HIx 1)) (W : Waits sig (HIx 1)) :
    (iprop(Transfers.MayWaits (VT d L) (default : HIx 1) O
        ∗ ((xRow1 L).view.loc (VT d L) ↦[(xRow1 L).view.set]{fullShare} fx) ∗ ((xRow2 L).view.loc (VT d L) ↦[(xRow2 L).view.set]{fullShare} fx)
        ∗ ((oRow1 L).view.loc (VT d L) ↦[(oRow1 L).view.set]{fullShare} fo) ∗ ((oRow2 L).view.loc (VT d L) ↦[(oRow2 L).view.set]{fullShare} fo)
        ∗ ((aV).view.loc (VT d L) ↦[(aV).view.set]{fullShare} ga) ∗ ((bV).view.loc (VT d L) ↦[(bV).view.set]{fullShare} gb)
        ∗ ((uV).view.loc (VT d L) ↦[(uV).view.set]{fullShare} gu) ∗ ((wV).view.loc (VT d L) ↦[(wV).view.set]{fullShare} gw)
        ∗ cells0 d L ∗ owes (VT d L) O W) : sProp 𝕄)
      ⊢ wp frame (wpE (defs₀ (F := F)) Variants.none (VT d L) none) Set.univ
          (cc0__sc_topn L xV (Memref.isWhole_whole _) oV (Memref.isWhole_whole _) aV (Memref.isWhole_whole _)
            bV (Memref.isWhole_whole _) uV (Memref.isWhole_whole _) wV (Memref.isWhole_whole _) cc0_scratch4 cc0_scratch5 cc0_scoped0 cc0_scoped1)
          fun _ => iprop(((xRow1 L).view.loc (VT d L) ↦[(xRow1 L).view.set]{fullShare} fx) ∗ ((xRow2 L).view.loc (VT d L) ↦[(xRow2 L).view.set]{fullShare} fx)
            ∗ ((oRow1 L).view.loc (VT d L) ↦[(oRow1 L).view.set]{fullShare} (oRow1 L).view.writes (Elt F) fo [⟨Rect.whole S64, rowOut ((xRow1 L).view.read (Elt F) fx)⟩])
            ∗ ((oRow2 L).view.loc (VT d L) ↦[(oRow2 L).view.set]{fullShare} (oRow2 L).view.writes (Elt F) fo [⟨Rect.whole S64, rowOut ((xRow2 L).view.read (Elt F) fx)⟩])
            ∗ (∃ f, (aV).view.loc (VT d L) ↦[(aV).view.set]{fullShare} f) ∗ (∃ f, (bV).view.loc (VT d L) ↦[(bV).view.set]{fullShare} f)
            ∗ (∃ f, (uV).view.loc (VT d L) ↦[(uV).view.set]{fullShare} f) ∗ (∃ f, (wV).view.loc (VT d L) ↦[(wV).view.set]{fullShare} f)
            ∗ cells0 d L ∗ ∃ W', owes (VT d L) O W') := by
  iintro ⟨Hmw, Hx1, Hx2, Ho1, Ho2, HA, HB, HU, HW, ⟨Hc0, Hc1, Hc2, Hc3⟩, HO⟩
  sl_unfold [cc0__sc_topn]
  sl_exec
  sl_for (inv d L ((xRow1 L).view.read (Elt F) fx) ((xRow2 L).view.read (Elt F) fx)) $$ [HA HB]
  case region =>
    intro k z
    unfold inv
    iintro ⟨%hz, HA, HB⟩
    subst hz
    iapply (wp_wand_r Idealize.ShloMosaic.frame (wpE (defs₀ (F := F)) Variants.none (VT d L) none) Set.univ)
    isplitl [HA HB]
    · iapply (trip d L k _ _ _ _)
      isplitl [HA]; · iexact HA
      iexact HB
    iintro %z' ⟨%hz', HA, HB⟩
    isplitr
    · ipureintro
      rw [hz', loaded_landed, loaded_landed]
      simp only [carried, k.isLt, ↓reduceDIte]
    isplitl [HA]; · iexact HA
    iexact HB
  · unfold inv
    isplitr
    · ipureintro; rfl
    isplitl [HA]; · iexact HA
    iexact HB
  iintro %z HI
  unfold inv
  icases HI with ⟨%hz, HA, HB⟩
  subst hz
  unfold both
  sl_exec
  sl_step
  have e1 : tile_run.sl.dma16 d L fx gu = rowOut ((xRow1 L).view.read (Elt F) fx) :=
    read_stores uV gu (turned (carried ((xRow1 L).view.read (Elt F) fx) k0_t1_loop.trips))
  have e2 : tile_run.sl.dma16_1 d L fx gw = rowOut ((xRow2 L).view.read (Elt F) fx) :=
    read_stores wV gw (turned (carried ((xRow2 L).view.read (Elt F) fx) k0_t1_loop.trips))
  rw [e1, e2]
  sl_close

end Tile

end Cert.Proof.Top

end
-- ==== Proof.Launch.lean ====
/-
  The launch: two SparseCores of sixteen tiles each, every tile with two rows of `x` and of `o`; from the tiles' runs the
  program's, with what `o` holds at the end.
-/
module

public import proofs.«01_k».proof.Proof.Tile

@[expose] public section

noncomputable section

namespace Cert.Proof.Top

open Cert.KernelIdeal Cert.KernelIdeal.Gen Cert.Proof.Net

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1)

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The rows and who has them -/

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

/-- Row `k` of the two that tile `i` of SparseCore `c` has, at `(c, i, k)`. -/
abbrev Task : Type := Fin 2 × Fin 16 × Fin 2
def rowOf (p : Task) : Fin 64 := ⟨4 * p.2.1.val + 2 * p.1.val + p.2.2.val, by have := p.1.isLt; have := p.2.1.isLt; have := p.2.2.isLt; omega⟩
abbrev rowIx (p : Task) : Fin 2 → Nat := ![(rowOf p).val, 0]
theorem rowIx_ne {p q : Task} (h : p ≠ q) : rowIx p ≠ rowIx q := fun e => h (by
  have e0 : (rowOf p).val = (rowOf q).val := congrFun e 0
  obtain ⟨c, i, k⟩ := p; obtain ⟨c', i', k'⟩ := q
  simp only [rowOf] at e0
  have := c.isLt; have := c'.isLt; have := k.isLt; have := k'.isLt
  simp only [Prod.mk.injEq, Fin.ext_iff]; omega)
theorem xRow_inb (p : Task) : ∀ a, (rowIx p a + 1) * S1x8192.size a ≤ S64x8192.size a := by
  have := (rowOf p).isLt; intro a; fin_cases a
  · show ((rowOf p).val + 1) * 1 ≤ 64; omega
  · show (0 + 1) * 8192 ≤ 8192; omega
theorem oRow_inb (p : Task) : ∀ a, (rowIx p a + 1) * S1x64.size a ≤ S64x64.size a := by
  have := (rowOf p).isLt; intro a; fin_cases a
  · show ((rowOf p).val + 1) * 1 ≤ 64; omega
  · show (0 + 1) * 64 ≤ 64; omega
abbrev xBlk (p : Task) : Rect S64x8192 := Rect.block (s := S64x8192) S1x8192.size (rowIx p) (xRow_inb p)
abbrev oBlk (p : Task) : Rect S64x64 := Rect.block (s := S64x64) S1x64.size (rowIx p) (oRow_inb p)
abbrev xSet (p : Task) : Finset S64x8192.Idx := (xBlk p).set
abbrev oSet (p : Task) : Finset S64x64.Idx := (oBlk p).set

/-- The task whose row `r` is. -/
def taskOf (r : Fin 64) : Task :=
  (⟨r.val / 2 % 2, Nat.mod_lt _ (by decide)⟩, ⟨r.val / 4, by have := r.isLt; omega⟩, ⟨r.val % 2, Nat.mod_lt _ (by decide)⟩)
theorem rowOf_taskOf (r : Fin 64) : rowOf (taskOf r) = r := Fin.ext (by simp only [rowOf, taskOf]; omega)

theorem xSet_disjoint : ∀ p ∈ (Finset.univ : Finset Task), ∀ q ∈ (Finset.univ : Finset Task), p ≠ q → Disjoint (xSet p) (xSet q) :=
  fun p _ q _ h => Rect.block_disjoint _ _ (rowIx_ne h)
theorem oSet_disjoint : ∀ p ∈ (Finset.univ : Finset Task), ∀ q ∈ (Finset.univ : Finset Task), p ≠ q → Disjoint (oSet p) (oSet q) :=
  fun p _ q _ h => Rect.block_disjoint _ _ (rowIx_ne h)
theorem xSet_cover : (Finset.univ : Finset Task).biUnion xSet = Finset.univ := by
  refine Finset.eq_univ_of_forall fun x => Finset.mem_biUnion.mpr ?_
  have h1 : (x 1).val < 8192 := (x 1).isLt
  refine ⟨taskOf (x 0), Finset.mem_univ _, Rect.mem_set_unit.mpr fun a => ?_⟩
  fin_cases a
  · have e : (rowOf (taskOf (x 0))).val = (x 0).val := congrArg Fin.val (rowOf_taskOf (x 0))
    show (rowOf (taskOf (x 0))).val * 1 ≤ (x 0).val ∧ (x 0).val < (rowOf (taskOf (x 0))).val * 1 + 1; omega
  · show 0 * 8192 ≤ (x 1).val ∧ (x 1).val < 0 * 8192 + 8192; omega
theorem oSet_cover : (Finset.univ : Finset Task).biUnion oSet = Finset.univ := by
  refine Finset.eq_univ_of_forall fun x => Finset.mem_biUnion.mpr ?_
  have h1 : (x 1).val < 64 := (x 1).isLt
  refine ⟨taskOf (x 0), Finset.mem_univ _, Rect.mem_set_unit.mpr fun a => ?_⟩
  fin_cases a
  · have e : (rowOf (taskOf (x 0))).val = (x 0).val := congrArg Fin.val (rowOf_taskOf (x 0))
    show (rowOf (taskOf (x 0))).val * 1 ≤ (x 0).val ∧ (x 0).val < (rowOf (taskOf (x 0))).val * 1 + 1; omega
  · show 0 * 64 ≤ (x 1).val ∧ (x 1).val < 0 * 64 + 64; omega

variable [FloatOps F]

abbrev xPts (d : Dev nD) : sProp 𝕄 := xLoc d ↦{fullShare} m (xLoc d)
abbrev oPts (d : Dev nD) (f : Buf (Elt F) (oLoc d)) : sProp 𝕄 := oLoc d ↦{fullShare} f
abbrev xRowPts (d : Dev nD) (p : Task) : sProp 𝕄 := xLoc d ↦[xSet p]{fullShare} m (xLoc d)
abbrev oRowPts (d : Dev nD) (f : Buf (Elt F) (oLoc d)) (p : Task) : sProp 𝕄 := oLoc d ↦[oSet p]{fullShare} f

/-- A tile's two rows of `x`, and its two of `o` at `f`. -/
def rows (d : Dev nD) (f : Buf (Elt F) (oLoc d)) (c : Fin 2) (i : Fin 16) : sProp 𝕄 :=
  iprop((xRowPts m d (c, i, 0) ∗ xRowPts m d (c, i, 1)) ∗ (oRowPts d f (c, i, 0) ∗ oRowPts d f (c, i, 1)))

instance rows_storable (d : Dev nD) (f : Buf (Elt F) (oLoc d)) (c : Fin 2) (i : Fin 16) : BI.Storable (upEmb : UEmb _ 𝕄) (rows m d f c i) :=
  (inferInstance : BI.Storable (upEmb : UEmb _ 𝕄)
    iprop((xRowPts m d (c, i, 0) ∗ xRowPts m d (c, i, 1)) ∗ (oRowPts d f (c, i, 0) ∗ oRowPts d f (c, i, 1))))

/-- The result: the rows of `x` each through the network. -/
abbrev result (d : Dev nD) : Buf (Elt F) (oLoc d) := res (m (xLoc d))

omit [FloatOps F] in
theorem whole_rows [FloatOps F] (d : Dev nD) (f : Buf (Elt F) (oLoc d)) :
    (bigSep Finset.univ fun c : Fin 2 => bigSep Finset.univ fun i : Fin 16 => rows m d f c i) = (iprop(xPts m d ∗ oPts d f) : sProp 𝕄) := by
  have hx : (xPts m d : sProp 𝕄) = bigSep Finset.univ fun p : Task => xRowPts m d p := by
    unfold xPts xRowPts
    rw [← pointsTo_biUnion Finset.univ (ℓ := xLoc d) xSet xSet_disjoint, xSet_cover]; try rfl
  have ho : (oPts d f : sProp 𝕄) = bigSep Finset.univ fun p : Task => oRowPts d f p := by
    unfold oPts oRowPts
    rw [← pointsTo_biUnion Finset.univ (ℓ := oLoc d) oSet oSet_disjoint, oSet_cover]; try rfl
  rw [hx, ho, ← bigSep_sep', BI.bigSep_univ_prod]
  refine bigSep_congr fun c _ => ?_
  rw [BI.bigSep_univ_prod]
  refine bigSep_congr fun i _ => ?_
  rw [bigSep_sep', BI.bigSep_fin_two, BI.bigSep_fin_two]
  rfl

/-- The call hands each SparseCore its tiles' rows, and each tile its own; they come back with `o`'s at the result. -/
def P : (K (F := F)).Pay (nD := nD) (Val := Elt F) (Name := ℕ) (U := UU) where
  st := fun q d c => match q with | 0 => bigSep Finset.univ fun i : Fin 16 => rows m d (m (oLoc d)) (Fin.cast nCore_zero c) i
  dn := fun q d c => match q with | 0 => bigSep Finset.univ fun i : Fin 16 => rows m d (result m d) (Fin.cast nCore_zero c) i
  go := fun q d c i => match q with | 0 => rows m d (m (oLoc d)) (Fin.cast nCore_zero c) (Fin.cast nSub_zero i)
  td := fun q d c i => match q with | 0 => rows m d (result m d) (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => rows m d (m (oLoc d)) (Fin.cast nCore_zero c) i))
  dn q d c := match q with
    | 0 => (inferInstance : BI.Storable (upEmb : UEmb _ 𝕄) (bigSep Finset.univ fun i : Fin 16 => rows m d (result m d) (Fin.cast nCore_zero c) i))
  go q d c i := match q with
    | 0 => rows_storable m d (m (oLoc d)) (Fin.cast nCore_zero c) (Fin.cast nSub_zero i)
  td q d c i := match q with
    | 0 => rows_storable m d (result m d) (Fin.cast nCore_zero c) (Fin.cast nSub_zero i)

/-! ## The task -/

section Tile

variable (d : Dev nD) (L : grid0.Coords)

theorem bound_zero : grid0.bound 0 = 2 := rfl
theorem bound_one : grid0.bound 1 = 16 := rfl
abbrev cL : Fin 2 := Fin.cast bound_zero (L 0)
abbrev iL : Fin 16 := Fin.cast bound_one (L 1)

theorem xRect1_eq : xRect1 L = xBlk (cL L, iL L, 0) := by
  unfold xRect1 xBlk Rect.block
  congr 1; funext a; rw [k0_off1_eq]
  match a with | 0 => simp [rowOf] | 1 => simp
theorem xRect2_eq : xRect2 L = xBlk (cL L, iL L, 1) := by
  unfold xRect2 xBlk Rect.block
  congr 1; funext a; rw [k0_off2_eq]
  match a with | 0 => simp [rowOf] | 1 => simp
theorem oRect1_eq : oRect1 L = oBlk (cL L, iL L, 0) := by
  unfold oRect1 oBlk Rect.block
  congr 1; funext a; rw [k0_off5_eq]
  match a with | 0 => simp [rowOf] | 1 => simp
theorem oRect2_eq : oRect2 L = oBlk (cL L, iL L, 1) := by
  unfold oRect2 oBlk Rect.block
  congr 1; funext a; rw [k0_off6_eq]
  match a with | 0 => simp [rowOf] | 1 => simp

theorem set_xSlice (r : Rect S64x8192) (h) (hn) : ((((xV).slice r h).squeeze S8192 hn).view.set : Finset S64x8192.Idx) = r.set := by
  show (((xV).view.slice r).reshape S8192 hn.numel_eq).set = _
  rw [View.set_reshape, View.set_slice]; exact Finset.map_refl
theorem set_oSlice (r : Rect S64x64) (h) (hn) : ((((oV).slice r h).squeeze S64 hn).view.set : Finset S64x64.Idx) = r.set := by
  show (((oV).view.slice r).reshape S64 hn.numel_eq).set = _
  rw [View.set_reshape, View.set_slice]; exact Finset.map_refl
theorem set_xRow1 : (xRow1 L).view.set = xSet (cL L, iL L, 0) := (set_xSlice _ _ _).trans (xRect1_eq L ▸ rfl)
theorem set_xRow2 : (xRow2 L).view.set = xSet (cL L, iL L, 1) := (set_xSlice _ _ _).trans (xRect2_eq L ▸ rfl)
theorem set_oRow1 : (oRow1 L).view.set = oSet (cL L, iL L, 0) := (set_oSlice _ _ _).trans (oRect1_eq L ▸ rfl)
theorem set_oRow2 : (oRow2 L).view.set = oSet (cL L, iL L, 1) := (set_oSlice _ _ _).trans (oRect2_eq L ▸ rfl)

theorem pts_xRow1 (f : Buf (Elt F) (xLoc d)) :
    ((xRow1 L).view.loc (VT d L) ↦[(xRow1 L).view.set]{fullShare} f : sProp 𝕄) = xLoc d ↦[xSet (cL L, iL L, 0)]{fullShare} f := by
  rw [set_xRow1]
theorem pts_xRow2 (f : Buf (Elt F) (xLoc d)) :
    ((xRow2 L).view.loc (VT d L) ↦[(xRow2 L).view.set]{fullShare} f : sProp 𝕄) = xLoc d ↦[xSet (cL L, iL L, 1)]{fullShare} f := by
  rw [set_xRow2]
theorem pts_oRow1 (f : Buf (Elt F) (oLoc d)) :
    ((oRow1 L).view.loc (VT d L) ↦[(oRow1 L).view.set]{fullShare} f : sProp 𝕄) = oRowPts d f (cL L, iL L, 0) := by
  rw [set_oRow1]
theorem pts_oRow2 (f : Buf (Elt F) (oLoc d)) :
    ((oRow2 L).view.loc (VT d L) ↦[(oRow2 L).view.set]{fullShare} f : sProp 𝕄) = oRowPts d f (cL L, iL L, 1) := by
  rw [set_oRow2]

/-- What the task copied out is, on its rows of `o`, the result. -/
theorem out_oRow1 (fx : Buf (Elt F) (xLoc d)) (fo : Buf (Elt F) (oLoc d)) :
    ((oRow1 L).view.loc (VT d L) ↦[(oRow1 L).view.set]{fullShare} (oRow1 L).view.writes (Elt F) fo [⟨Rect.whole S64, rowOut ((xRow1 L).view.read (Elt F) fx)⟩] : sProp 𝕄)
      = oRowPts d (res fx) (cL L, iL L, 0) := by
  rw [← pts_oRow1]
  refine pointsTo_congr fun i hi => ?_
  obtain ⟨y, -, rfl⟩ := Finset.mem_map.mp hi
  refine (congrFun (View.read_writes_whole (oRow1 L).view fo _) y).trans ?_
  refine Eq.trans ?_ (congrArg (res fx) (emb_oRow1 L y (rowOf (cL L, iL L, 0)) rfl)).symm
  refine (congrArg₂ (rowOut (F := F)) (funext fun z => ?_) (eq_ix1 y) :)
  exact congrArg fx (emb_xRow1 L z (rowOf (cL L, iL L, 0)) rfl)
theorem out_oRow2 (fx : Buf (Elt F) (xLoc d)) (fo : Buf (Elt F) (oLoc d)) :
    ((oRow2 L).view.loc (VT d L) ↦[(oRow2 L).view.set]{fullShare} (oRow2 L).view.writes (Elt F) fo [⟨Rect.whole S64, rowOut ((xRow2 L).view.read (Elt F) fx)⟩] : sProp 𝕄)
      = oRowPts d (res fx) (cL L, iL L, 1) := by
  rw [← pts_oRow2]
  refine pointsTo_congr fun i hi => ?_
  obtain ⟨y, -, rfl⟩ := Finset.mem_map.mp hi
  refine (congrFun (View.read_writes_whole (oRow2 L).view fo _) y).trans ?_
  refine Eq.trans ?_ (congrArg (res fx) (emb_oRow2 L y (rowOf (cL L, iL L, 1)) rfl)).symm
  refine (congrArg₂ (rowOut (F := F)) (funext fun z => ?_) (eq_ix1 y) :)
  exact congrArg fx (emb_xRow2 L z (rowOf (cL L, iL L, 1)) rfl)

/-- Scratch as the body holds it is scratch as the launch deals it. -/
theorem pts_scratch {s : Shape} (M : Memref sig .scVector .vmem s .f32) (hM : M.view.set = Finset.univ) (f : Buf (Elt F) (M.view.loc (VT d L))) :
    (M.view.loc (VT d L) ↦[M.view.set]{fullShare} f : sProp 𝕄) = M.view.loc (VT d L) ↦{fullShare} f := by
  rw [hM]

abbrev dcell (d : Dev nD) (c : Fin τ.nSC) (i : Fin τ.nSub) (k : Fin 4) : GSem nD τ sig := (V d c i, .dma (csem k.val k.isLt))

omit [FloatOps F] in
/-- The subcore's own cells at zero: the task's four and the rest. -/
theorem ownSems0_V :
    (ownSems0 (VT d L) : sProp 𝕄)
      = iprop(cells0 d L ∗ bigSep ((ownCells (VT d L)) \ Finset.univ.image (dcell d (cV L) (jV L))) fun g => semVal g 0) := by
  have mem : ∀ k : Fin 4, dcell d (cV L) (jV L) k ∈ ownCells (VT d L) := fun k =>
    mem_ownCells.mpr ⟨rfl, (show ∀ s : DmaSem sig, (SemLoc.dma s : SemLoc sig).isScoped .scVector = true by decide) _⟩
  unfold SparseCore.Cfg.ownSems0
  rw [SparseCore.bigSep_sdiff_split' (t := Finset.univ.image (dcell d (cV L) (jV L))) (Finset.image_subset_iff.mpr fun k _ => mem k),
    SparseCore.bigSep_image_of_injOn (fun a _ b _ h => by
      have := congrArg (fun g : GSem nD τ sig => g.2) h
      simp only [SemLoc.dma.injEq, Fin.mk.injEq] at this; exact Fin.ext this),
    show (Finset.univ : Finset (Fin 4)) = {0, 1, 2, 3} by decide,
    SparseCore.bigSep_insert' (by decide), SparseCore.bigSep_insert' (by decide), SparseCore.bigSep_insert' (by decide), bigSep_singleton]
  rfl

abbrev own (b : Ref sig .scVector) : DevRef τ sig := (Proc.scVector (cV L) (jV L)).devRef b
/-- The subcore's own buffers but its four scratch arrays. -/
abbrev otherBufs : Finset (DevRef τ sig) :=
  ((((ownRefs (τ := τ) (.scVector (cV L) (jV L))).erase (own L cc0_scratch0)).erase (own L cc0_scratch1)).erase (own L cc0_scratch2)).erase (own L cc0_scratch3)

omit [FloatOps F] in
/-- The subcore's own buffers: the task's four scratch arrays, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (otherBufs L) fun b => iprop(∃ f, ((d, b) : Loc nD τ sig) ↦{fullShare} f)) := by
  have mem : ∀ b : Ref sig .scVector, (own L b).owner = .proc (Proc.scVector (cV L) (jV L)) → own L b ∈ ownRefs (τ := τ) (.scVector (cV L) (jV L)) :=
    fun b h => SparseCore.Cfg.mem_ownRefs_of_owner (p := Proc.scVector (cV L) (jV L)) h
  have ne : ∀ {b b' : Ref sig .scVector}, b ≠ b' → own L b ≠ own L b' := fun h e => h (Proc.devRef_injective _ e)
  unfold SparseCore.Cfg.ownBufs
  rw [SparseCore.bigSep_erase' (mem cc0_scratch0 rfl),
    SparseCore.bigSep_erase' (Finset.mem_erase.mpr ⟨ne (b := cc0_scratch1) (b' := cc0_scratch0) (by decide), mem cc0_scratch1 rfl⟩),
    SparseCore.bigSep_erase' (Finset.mem_erase.mpr ⟨ne (b := cc0_scratch2) (b' := cc0_scratch1) (by decide),
      Finset.mem_erase.mpr ⟨ne (b := cc0_scratch2) (b' := cc0_scratch0) (by decide), mem cc0_scratch2 rfl⟩⟩),
    SparseCore.bigSep_erase' (Finset.mem_erase.mpr ⟨ne (b := cc0_scratch3) (b' := cc0_scratch2) (by decide),
      Finset.mem_erase.mpr ⟨ne (b := cc0_scratch3) (b' := cc0_scratch1) (by decide),
        Finset.mem_erase.mpr ⟨ne (b := cc0_scratch3) (b' := cc0_scratch0) (by decide), mem cc0_scratch3 rfl⟩⟩⟩)]

/-- The task on its tile, from what the launch deals it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ rows m d (m (oLoc d)) (cL L) (iL L)
        ∗ scopedBufs (VT d L) ∗ scopedSems0 (VT d L) ∗ owes (VT d L) O W)
      ⊢ wp frame (wpE (defs₀ (F := F)) 𝒱₀ (VT d L) none) Set.univ
          (cc0__sc_topn L xV (Memref.isWhole_whole _) oV (Memref.isWhole_whole _) aV (Memref.isWhole_whole _)
            bV (Memref.isWhole_whole _) uV (Memref.isWhole_whole _) wV (Memref.isWhole_whole _) cc0_scratch4 cc0_scratch5 cc0_scoped0 cc0_scoped1)
          fun _ => iprop(rows m d (result m d) (cL L) (iL L) ∗ scopedBufs (VT d L) ∗ scopedSems0 (VT d L)
            ∗ ∃ W', ⌜∀ p ∈ W', p ∈ W ∨ p.2 = none ∨ p.2 = some (0 : Fin 1)⌝ ∗ owes (VT d L) O W') := by
  have hw : ∀ b : Ref sig .scVector, (View.whole b : View sig .scVector _ _ _).set = Finset.univ := fun b => View.set_whole b
  rw [(K (F := F)).scopedBufs_V hF d (cV L) (jV L), SparseCore.Cfg.scopedSems0_V (Val := Elt F) d (cV L) (jV L), ownSems0_V, ownBufs_V]
  unfold rows
  iintro ⟨#Hlv, -, ⟨⟨Hx1, Hx2⟩, Ho1, Ho2⟩, ⟨⟨%ga, HA⟩, ⟨%gb, HB⟩, ⟨%gu, HU⟩, ⟨%gw, HW⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hx1' := (Entails.of_eq (pts_xRow1 (F := F) d L _).symm) $$ Hx1
  ihave Hx2' := (Entails.of_eq (pts_xRow2 (F := F) d L _).symm) $$ Hx2
  ihave Ho1' := (Entails.of_eq (pts_oRow1 (F := F) d L _).symm) $$ Ho1
  ihave Ho2' := (Entails.of_eq (pts_oRow2 (F := F) d L _).symm) $$ Ho2
  ihave HA' := (Entails.of_eq (pts_scratch (F := F) d L aV (hw _) ga).symm) $$ HA
  ihave HB' := (Entails.of_eq (pts_scratch (F := F) d L bV (hw _) gb).symm) $$ HB
  ihave HU' := (Entails.of_eq (pts_scratch (F := F) d L uV (hw _) gu).symm) $$ HU
  ihave HW' := (Entails.of_eq (pts_scratch (F := F) d L wV (hw _) gw).symm) $$ HW
  iapply (wp_wand_r Idealize.ShloMosaic.frame (wpE (defs₀ (F := F)) 𝒱₀ (VT d L) none) Set.univ)
  isplitl [Hx1' Hx2' Ho1' Ho2' HA' HB' HU' HW' HC HO]
  · iapply (tile_run d L (m (xLoc d)) (m (oLoc d)) ga gb gu gw O W)
    isplitr; · iexact Hmw
    isplitl [Hx1']; · iexact Hx1'
    isplitl [Hx2']; · iexact Hx2'
    isplitl [Ho1']; · iexact Ho1'
    isplitl [Ho2']; · iexact Ho2'
    isplitl [HA']; · iexact HA'
    isplitl [HB']; · iexact HB'
    isplitl [HU']; · iexact HU'
    isplitl [HW']; · iexact HW'
    isplitl [HC]; · iexact HC
    iexact HO
  iintro %_ ⟨Hx1, Hx2, Ho1, Ho2, ⟨%fa, HA⟩, ⟨%fb, HB⟩, ⟨%fu, HU⟩, ⟨%fw, HW⟩, HC, ⟨%W', HO⟩⟩
  isplitl [Hx1 Hx2 Ho1 Ho2]
  · isplitl [Hx1 Hx2]
    · isplitl [Hx1]; · iapply (Entails.of_eq (pts_xRow1 (F := F) d L _)); iexact Hx1
      iapply (Entails.of_eq (pts_xRow2 (F := F) d L _)); iexact Hx2
    isplitl [Ho1]; · iapply (Entails.of_eq (out_oRow1 (F := F) d L (m (xLoc d)) (m (oLoc d)))); iexact Ho1
    iapply (Entails.of_eq (out_oRow2 (F := F) d L (m (xLoc d)) (m (oLoc d)))); iexact Ho2
  isplitl [HA HB HU HW Hbufs]
  · isplitl [HA]; · iexists _; iapply (Entails.of_eq (pts_scratch (F := F) d L aV (hw _) _)); iexact HA
    isplitl [HB]; · iexists _; iapply (Entails.of_eq (pts_scratch (F := F) d L bV (hw _) _)); iexact HB
    isplitl [HU]; · iexists _; iapply (Entails.of_eq (pts_scratch (F := F) d L uV (hw _) _)); iexact HU
    isplitl [HW]; · iexists _; iapply (Entails.of_eq (pts_scratch (F := F) d L wV (hw _) _)); iexact HW
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_topn (coordsV c s) xV (Memref.isWhole_whole _) oV (Memref.isWhole_whole _) aV (Memref.isWhole_whole _)
            bV (Memref.isWhole_whole _) uV (Memref.isWhole_whole _) wV (Memref.isWhole_whole _) cc0_scratch4 cc0_scratch5 cc0_scoped0 cc0_scoped1) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The handshakes and @main -/

omit [FloatOps F] in
theorem bigSep_tiles [FloatOps F] (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => rows m d (m (oLoc d)) (Fin.cast nCore_zero c) i) ⊢ |={Set.univ}=> iprop(
      (bigSep Finset.univ fun i : Fin ((K (F := F)).nSub 0) => rows m d (m (oLoc d)) (Fin.cast nCore_zero c) (Fin.cast nSub_zero i))
      ∗ ((bigSep Finset.univ fun i : Fin ((K (F := F)).nSub 0) => rows m d (result m d) (Fin.cast nCore_zero c) (Fin.cast nSub_zero i))
          -∗ bigSep Finset.univ fun i : Fin 16 => rows m d (result m d) (Fin.cast nCore_zero c) i))
  rw [bigSep_tiles (F := F) (fun i => rows m d (m (oLoc d)) (Fin.cast nCore_zero c) i),
    bigSep_tiles (F := F) (fun i => rows m d (result m d) (Fin.cast nCore_zero c) i)]
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_emp_const _).trans (bigSep_emp_const _)
  unfold u₀
  iintro Hu
  ihave H := (ownU_pair (initOf (K (F := F)).hsCells (K (F := F)).hsToks) (1 : Counters)) $$ Hu
  icases H with ⟨HH, -⟩
  imodintro
  isplitl [HH]; · iexact HH
  rw [hx, bigSep_emp']
  isplitr <;> iempintro

theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide, SparseCore.bigSep_insert' (by decide), bigSep_singleton]

theorem st0_eq (d : Dev nD) : (bigSep Finset.univ fun c : Fin ((K (F := F)).nCore 0) => (P m).st 0 d c) = iprop(xPts m d ∗ oPts d (m (oLoc d))) :=
  (bigSep_cores (F := F) fun c => bigSep Finset.univ fun i : Fin 16 => rows m d (m (oLoc d)) c i).trans (whole_rows m d _)
theorem dn0_eq (d : Dev nD) : (bigSep Finset.univ fun c : Fin ((K (F := F)).nCore 0) => (P m).dn 0 d c) = iprop(xPts m d ∗ oPts d (result m d)) :=
  (bigSep_cores (F := F) fun c => bigSep Finset.univ fun i : Fin 16 => rows m d (result m d) c i).trans (whole_rows m d _)

abbrev FIN (d : Dev nD) : sProp 𝕄 := iprop(xPts m d ∗ oPts d (result m d))

/-- @main on the TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitr [Hb Hts]
  · isplitl [Hx]; · iexact Hx
    iexact Ho
  isplitl [Hb] <;> iassumption

def fq (d : Dev nD) (s' : Phys nD τ sig (Elt F)) : Prop := s'.mem.mem (oLoc d) = result m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := result m d)) $$ [HSI Ho]
  · isplitl [HSI] <;> iassumption
  icases H with %h2
  ipureintro
  exact ⟨funext fun (i : Idx (oLoc d)) => h2 i (by simp), funext fun (i : Idx (xLoc d)) => h1 i (by simp)⟩

/-- Every execution ends with `o` at the result, `x` as it was, and every counter at zero. -/
theorem run_main [∀ e, Nonempty (Elt F e)] :
    θ_run (Cert.KernelIdeal.defs (F := F)) (Cert.KernelIdeal.threads (F := F)) ⟨m, fun _ => 0, ρ⟩
      (fun r => (∀ c : Dev nD, r.2.mem (oLoc c) = result m c ∧ r.2.mem (xLoc c) = m (xLoc c)) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.Top

end
-- ==== Proof.NetLanes.lean ====
/-
  The network's vectors lane by lane: where `rev` and `insert` take each lane from.
-/
module

public import proofs.«01_k».proof.Proof.Net
public import Idealize.ShloMosaic.Lib.ValueIdxCore
public import Idealize.ShloMosaic.Lib.Pipeline.Value
public import Idealize.ShloMosaic.Lib.Exec.Context

@[expose] public section

noncomputable section

namespace Cert.Proof.Net

open Cert.KernelIdeal Cert.KernelIdeal.Gen
open Idealize.ShloMosaic
open Idealize.ShloMosaic.ValueIdx (ix1 eq_ix1)

variable {F : FTy → Type} [FloatOps F]

/-- Equal lane numbers, equal lanes. -/
theorem lane_eq (v : V16 F) {x : S16.Idx} {i : Fin 16} (h : (x 0).val = i.val) : v x = v (ix1 i) :=
  congrArg v ((eq_ix1 x).trans (congrArg ix1 (Fin.ext h)))

/-- Lane `i` of the reversed vector is lane `15 − i`. -/
theorem rev_lane (v : V16 F) (i : Fin 16) : rev v (ix1 i) = v (ix1 i.rev) := by
  fin_cases i <;> exact lane_eq v rfl

/-- A vector of lanes 1 to 15 and lane 0 behind them. -/
theorem turn_lane (v : V16 F) (i : Fin 16) :
    concatenate S16 0 [⟨S15, extractStridedSlice S15 ![1] v slices_S16_o1_S15⟩,
      ⟨S1, extractStridedSlice S1 ![0] v slices_S16_o0_S1⟩] concatenates_S15_S1_S16_d0 (ix1 i) = v (ix1 ⟨(i.val + 1) % 16, Nat.mod_lt _ (by decide)⟩) := by
  induction i using Fin.lastCases with
  | last => exact lane_eq v ((Nat.zero_add _).trans (Nat.lt_one_iff.mp (Fin.isLt _)))
  | cast i => fin_cases i <;> exact lane_eq v rfl

/-- A vector of lane 0 of one and, behind it, lanes 0 to 14 of another. -/
theorem shift_zero (v s : V16 F) :
    concatenate S16 0 [⟨S1, extractStridedSlice S1 ![0] v slices_S16_o0_S1⟩,
        ⟨S15, extractStridedSlice S15 ![0] s slices_S16_o0_S15⟩] concatenates_S1_S15_S16_d0 (ix1 0) = v (ix1 0) := lane_eq v rfl
theorem shift_succ (v s : V16 F) (i : Fin 15) :
    concatenate S16 0 [⟨S1, extractStridedSlice S1 ![0] v slices_S16_o0_S1⟩,
        ⟨S15, extractStridedSlice S15 ![0] s slices_S16_o0_S15⟩] concatenates_S1_S15_S16_d0 (ix1 i.succ) = s (ix1 i.castSucc) := by
  fin_cases i <;> exact lane_eq s rfl

/-- The first vector turns by one lane. -/
theorem insert_turn (p : V16 F × V16 F) (i : Fin 16) : (insert p).1 (ix1 i) = p.1 (ix1 ⟨(i.val + 1) % 16, Nat.mod_lt _ (by decide)⟩) :=
  turn_lane p.1 i

/-- Lane 0 of the first vector, as the insertion spreads it. -/
theorem first_lane (v : V16 F) : extractAt ![0] (extractStridedSlice S1 ![0] v slices_S16_o0_S1) inpos_S1_p0 = v (ix1 0) := lane_eq v rfl

/-- Lane 0 after an insertion. -/
theorem insert_zero (p : V16 F × V16 F) : (insert p).2 (ix1 0) = FloatOps.minimumf (p.2 (ix1 0)) (FloatOps.maximumf (p.1 (ix1 0)) (p.1 (ix1 0))) :=
  congrArg (FloatOps.minimumf (p.2 (ix1 0))) (congrArg₂ FloatOps.maximumf (shift_zero p.1 p.2) (first_lane p.1))

/-- A later lane after an insertion. -/
theorem insert_succ (p : V16 F × V16 F) (i : Fin 15) :
    (insert p).2 (ix1 i.succ) = FloatOps.minimumf (p.2 (ix1 i.succ)) (FloatOps.maximumf (p.2 (ix1 i.castSucc)) (p.1 (ix1 0))) :=
  congrArg (FloatOps.minimumf (p.2 (ix1 i.succ))) (congrArg₂ FloatOps.maximumf (shift_succ p.1 p.2 i) (first_lane p.1))

/-- What holds at the start and is kept by each trip holds of the fold. -/
theorem fold_keeps {σ : Type} {n : Nat} (P : Nat → σ → Prop) (g : Fin n → σ → σ) (a : σ) (h0 : P 0 a) (hs : ∀ (k : Fin n) (s : σ), P k.val s → P (k.val + 1) (g k s)) :
    P n (Scf.fold g a) := by
  rw [Scf.fold_eq]
  induction n with
  | zero => exact h0
  | succ n ih =>
    rw [List.finRange_succ_last, List.foldl_append, List.foldl_map]
    exact hs (Fin.last n) _ (ih (fun k => g k.castSucc) fun k s => hs k.castSucc s)

end Cert.Proof.Net

end
-- ==== Proof.Sorted.lean ====
/-
  What the network computes over the extended reals, told by thresholds: for each threshold `t`, which lanes are at least `t`.
  A sorted run of `n` at or above `t` is one whose last `n` lanes are; each step of the network takes such runs to such runs
  and keeps their counts.
-/
module

public import proofs.«01_k».proof.Proof.NetLanes
public import Idealize.ShloMosaic.PureOps.Ideal
public import Mathlib.Algebra.BigOperators.Intervals

@[expose] public section

noncomputable section

namespace Cert.Proof.Net

open Cert.KernelIdeal Cert.KernelIdeal.Gen
open Idealize.ShloMosaic
open Idealize.ShloMosaic.ValueIdx (ix1)

/-- Lane `i` as an extended real. -/
def lane (v : V16 Ideal) (i : Fin 16) : EReal := v (ix1 i)

theorem le_min_lane (t : EReal) (u v : V16 Ideal) (i : Fin 16) : t ≤ lane (minimumf u v) i ↔ t ≤ lane u i ∧ t ≤ lane v i := le_min_iff
theorem le_max_lane (t : EReal) (u v : V16 Ideal) (i : Fin 16) : t ≤ lane (maximumf u v) i ↔ t ≤ lane u i ∨ t ≤ lane v i := le_max_iff
theorem le_rev_lane (t : EReal) (v : V16 Ideal) (i : Fin 16) : t ≤ lane (rev v) i ↔ t ≤ lane v i.rev := by
  unfold lane; rw [rev_lane]

/-! ## Counting -/

/-- Is lane `n` at least `t`? -/
def hit (v : V16 Ideal) (t : EReal) (n : Nat) : Nat := if t ≤ lane v ⟨n % 16, Nat.mod_lt _ (by decide)⟩ then 1 else 0
/-- How many lanes are at least `t`. -/
def cnt (v : V16 Ideal) (t : EReal) : Nat := ∑ n ∈ Finset.range 16, hit v t n

theorem hit_le (v : V16 Ideal) (t : EReal) (n : Nat) : hit v t n ≤ 1 := by unfold hit; split <;> omega
theorem sum_hit_le (v : V16 Ideal) (t : EReal) (j : Nat) : ∑ n ∈ Finset.range j, hit v t n ≤ j := by
  refine (Finset.sum_le_card_nsmul _ _ 1 fun n _ => hit_le v t n).trans ?_
  simp
theorem cnt_le (v : V16 Ideal) (t : EReal) : cnt v t ≤ 16 := sum_hit_le v t 16

theorem cnt_of_none {v : V16 Ideal} {t : EReal} (h : ∀ i, ¬ t ≤ lane v i) : cnt v t = 0 :=
  Finset.sum_eq_zero fun n _ => if_neg (h _)
theorem cnt_of_all {v : V16 Ideal} {t : EReal} (h : ∀ i, t ≤ lane v i) : cnt v t = 16 := by
  have e : ∀ n, hit v t n = 1 := fun n => if_pos (h _)
  simp [cnt, e]

theorem cnt_rev (v : V16 Ideal) (t : EReal) : cnt (rev v) t = cnt v t := by
  unfold cnt
  rw [← Finset.sum_range_reflect (hit v t) 16]
  refine Finset.sum_congr rfl fun n hn => ?_
  have hn' := Finset.mem_range.mp hn
  refine if_congr ((le_rev_lane t v _).trans (iff_of_eq (congrArg (fun i => t ≤ lane v i) (Fin.ext ?_)))) rfl rfl
  simp only [Fin.val_rev]; omega

/-- A minimum and a maximum together have the two vectors' lanes. -/
theorem cnt_min_add_max (u v : V16 Ideal) (t : EReal) : cnt (minimumf u v) t + cnt (maximumf u v) t = cnt u t + cnt v t := by
  unfold cnt
  rw [← Finset.sum_add_distrib, ← Finset.sum_add_distrib]
  refine Finset.sum_congr rfl fun n _ => ?_
  unfold hit
  simp only [le_min_lane, le_max_lane]
  by_cases hu : t ≤ lane u ⟨n % 16, Nat.mod_lt _ (by decide)⟩ <;> by_cases hv : t ≤ lane v ⟨n % 16, Nat.mod_lt _ (by decide)⟩ <;> simp [hu, hv]

/-! ## Sorted vectors and runs -/

/-- Exactly the last `a` lanes are at least `t`. -/
def Asc (v : V16 Ideal) (t : EReal) (a : Nat) : Prop := ∀ i : Fin 16, t ≤ lane v i ↔ 16 ≤ i.val + a

theorem Asc.cnt_eq {v : V16 Ideal} {t : EReal} {a : Nat} (h : Asc v t a) (ha : a ≤ 16) : cnt v t = a := by
  have e : cnt v t = ∑ n ∈ Finset.range 16, if 16 ≤ n + a then 1 else 0 := by
    refine Finset.sum_congr rfl fun n hn => ?_
    have hn' := Finset.mem_range.mp hn
    unfold hit
    have := h ⟨n % 16, Nat.mod_lt _ (by decide)⟩
    simp only [Nat.mod_eq_of_lt hn'] at this ⊢
    simp only [this]
  rw [e]
  clear e h
  revert a
  decide

/-- The insertions sort: the last `cnt` lanes are the ones at least `t`. -/
theorem vsort_asc (v : V16 Ideal) (t : EReal) : Asc (vsort v) t (cnt v t) := by
  have key := fold_keeps (n := 16)
    (fun j (p : V16 Ideal × V16 Ideal) => (∀ i : Fin 16, lane p.1 i = lane v ⟨(i.val + j) % 16, Nat.mod_lt _ (by decide)⟩)
      ∧ ∀ i : Fin 16, t ≤ lane p.2 i ↔ j ≤ i.val + ∑ n ∈ Finset.range j, hit v t n)
    (fun _ p => insert p) (v, broadcast S16 (Scalar.ofBits .f32 0x7F800000#32)) ?_ ?_
  · exact key.2
  · refine ⟨fun i => congrArg (lane v) (Fin.ext (by show i.val = (i.val + 0) % 16; omega)), fun i => ?_⟩
    have : lane (broadcast S16 (Scalar.ofBits (F := Ideal) .f32 0x7F800000#32)) i = ⊤ := by
      show Ideal.ofBits .f32 0x7F800000#32 = ⊤
      simp [Ideal.ofBits, Ideal.ieee]
    rw [this]; simp
  · rintro k ⟨w, s⟩ ⟨hw, hs⟩
    dsimp only at hw hs ⊢
    have hx : hit v t k.val = if t ≤ lane w 0 then 1 else 0 := by
      unfold hit; rw [hw 0]; simp
    refine ⟨fun i => ?_, fun i => ?_⟩
    · refine (insert_turn (w, s) i).trans ((hw _).trans (congrArg (lane v) (Fin.ext ?_)))
      show ((i.val + 1) % 16 + k.val) % 16 = (i.val + (k.val + 1)) % 16
      omega
    · have hk := sum_hit_le v t k.val
      rw [Finset.sum_range_succ, hx]
      induction i using Fin.cases with
      | zero =>
        have e : t ≤ lane (insert (w, s)).2 0 ↔ t ≤ lane s 0 ∧ t ≤ lane w 0 := by
          unfold lane; rw [insert_zero]; exact le_min_iff.trans (and_congr_right fun _ => le_max_iff.trans (or_self_iff))
        rw [e, hs 0]
        have : ((0 : Fin 16).val) = 0 := rfl
        by_cases h : t ≤ lane w 0 <;> simp only [h, ↓reduceIte, and_true, and_false, or_true, or_false, false_iff, not_le] <;> omega
      | succ i =>
        have e : t ≤ lane (insert (w, s)).2 i.succ ↔ t ≤ lane s i.succ ∧ (t ≤ lane s i.castSucc ∨ t ≤ lane w 0) := by
          unfold lane; rw [insert_succ]; exact le_min_iff.trans (and_congr_right fun _ => le_max_iff)
        rw [e, hs i.succ, hs i.castSucc]
        have h1 : i.succ.val = i.val + 1 := rfl
        have h2 : i.castSucc.val = i.val := rfl
        by_cases h : t ≤ lane w 0 <;> simp only [h, ↓reduceIte, and_true, and_false, or_true, or_false, false_iff, not_le] <;> omega

/-- A half-cleaning step on one pair: all the lanes of the minimum are under `t`, or none of the maximum's. -/
theorem cnt_cleaned {u v : V16 Ideal} {t : EReal} (h : ∀ i j : Fin 16, t ≤ lane u i ∧ t ≤ lane v i → t ≤ lane u j ∨ t ≤ lane v j) :
    cnt (minimumf u v) t = cnt u t + cnt v t - 16 ∧ cnt (maximumf u v) t = min 16 (cnt u t + cnt v t) := by
  have e := cnt_min_add_max u v t
  have b := cnt_le (maximumf u v) t
  by_cases hz : ∃ i, t ≤ lane u i ∧ t ≤ lane v i
  · obtain ⟨i, hi⟩ := hz
    have := cnt_of_all (v := maximumf u v) (t := t) fun j => (le_max_lane t u v j).mpr (h i j hi)
    omega
  · have := cnt_of_none (v := minimumf u v) (t := t) fun i hi => hz ⟨i, (le_min_lane t u v i).mp hi⟩
    omega

/-- A half-cleaning step on two pairs: the minima have what is over 32, the maxima 32 or all there is. -/
theorem cnt_cleaned2 {u u' v v' : V16 Ideal} {t : EReal}
    (h : ∀ i j : Fin 16, (t ≤ lane u i ∧ t ≤ lane v i) ∨ (t ≤ lane u' i ∧ t ≤ lane v' i) →
      (t ≤ lane u j ∨ t ≤ lane v j) ∧ (t ≤ lane u' j ∨ t ≤ lane v' j)) :
    cnt (minimumf u v) t + cnt (minimumf u' v') t = cnt u t + cnt v t + (cnt u' t + cnt v' t) - 32
      ∧ cnt (maximumf u v) t + cnt (maximumf u' v') t = min 32 (cnt u t + cnt v t + (cnt u' t + cnt v' t)) := by
  have e := cnt_min_add_max u v t
  have e' := cnt_min_add_max u' v' t
  have b := cnt_le (maximumf u v) t
  have b' := cnt_le (maximumf u' v') t
  by_cases hz : ∃ i, (t ≤ lane u i ∧ t ≤ lane v i) ∨ (t ≤ lane u' i ∧ t ≤ lane v' i)
  · obtain ⟨i, hi⟩ := hz
    have := cnt_of_all (v := maximumf u v) (t := t) fun j => (le_max_lane t u v j).mpr (h i j hi).1
    have := cnt_of_all (v := maximumf u' v') (t := t) fun j => (le_max_lane t u' v' j).mpr (h i j hi).2
    omega
  · have := cnt_of_none (v := minimumf u v) (t := t) fun i hi => hz ⟨i, .inl ((le_min_lane t u v i).mp hi)⟩
    have := cnt_of_none (v := minimumf u' v') (t := t) fun i hi => hz ⟨i, .inr ((le_min_lane t u' v' i).mp hi)⟩
    omega

/-- A run of 32 lanes, ascending: exactly the last `n` are at least `t`. -/
def Run2 (r : V16 Ideal × V16 Ideal) (t : EReal) (n : Nat) : Prop := Asc r.1 t (n - 16) ∧ Asc r.2 t (min 16 n)
/-- A run of 64 lanes, ascending: exactly the last `n` are at least `t`. -/
def Run4 (r : V16 Ideal × V16 Ideal × V16 Ideal × V16 Ideal) (t : EReal) (n : Nat) : Prop :=
  Asc r.1 t (min 16 (n - 48)) ∧ Asc r.2.1 t (min 16 (n - 32)) ∧ Asc r.2.2.1 t (min 16 (n - 16)) ∧ Asc r.2.2.2 t (min 16 n)

theorem asc_of_cnt {v : V16 Ideal} {t : EReal} {n : Nat} (h : cnt v t = n) : Asc (vsort v) t n := h ▸ vsort_asc v t

theorem merge2_run {a b : V16 Ideal} {t : EReal} {p q : Nat} (ha : Asc a t p) (hb : Asc b t q) (hp : p ≤ 16) (hq : q ≤ 16) :
    Run2 (merge2 a b) t (p + q) := by
  have c := cnt_cleaned (u := a) (v := rev b) (t := t) fun i j => by
    have := i.isLt; have := j.isLt
    rw [le_rev_lane, le_rev_lane, ha, hb, ha, hb, Fin.val_rev, Fin.val_rev]; omega
  rw [cnt_rev, ha.cnt_eq hp, hb.cnt_eq hq] at c
  exact ⟨asc_of_cnt c.1, asc_of_cnt c.2⟩

theorem merge4_run {a b : V16 Ideal × V16 Ideal} {t : EReal} {p q : Nat} (ha : Run2 a t p) (hb : Run2 b t q) (hp : p ≤ 32) (hq : q ≤ 32) :
    Run4 (merge4 a.1 a.2 b.1 b.2) t (p + q) := by
  obtain ⟨a0, a1⟩ := a; obtain ⟨b0, b1⟩ := b
  obtain ⟨ha0, ha1⟩ := ha; obtain ⟨hb0, hb1⟩ := hb
  dsimp only at ha0 ha1 hb0 hb1 ⊢
  have c := cnt_cleaned2 (u := a0) (u' := a1) (v := rev b1) (v' := rev b0) (t := t) fun i j => by
    have := i.isLt; have := j.isLt
    simp only [le_rev_lane, ha0 _, ha1 _, hb0 _, hb1 _, Fin.val_rev]; omega
  have cl := cnt_cleaned (u := minimumf a0 (rev b1)) (v := minimumf a1 (rev b0)) (t := t) fun i j => by
    have := i.isLt; have := j.isLt
    simp only [le_min_lane, le_rev_lane, ha0 _, ha1 _, hb0 _, hb1 _, Fin.val_rev]; omega
  have ch := cnt_cleaned (u := maximumf a0 (rev b1)) (v := maximumf a1 (rev b0)) (t := t) fun i j => by
    have := i.isLt; have := j.isLt
    simp only [le_max_lane, le_rev_lane, ha0 _, ha1 _, hb0 _, hb1 _, Fin.val_rev]; omega
  rw [cnt_rev, cnt_rev, ha0.cnt_eq (by omega), ha1.cnt_eq (by omega), hb0.cnt_eq (by omega), hb1.cnt_eq (by omega)] at c
  exact ⟨asc_of_cnt (by omega), asc_of_cnt (by omega), asc_of_cnt (by omega), asc_of_cnt (by omega)⟩

theorem sort64_run (c : V16 Ideal × V16 Ideal × V16 Ideal × V16 Ideal) (t : EReal) :
    Run4 (sort64 c) t (cnt c.1 t + cnt c.2.1 t + (cnt c.2.2.1 t + cnt c.2.2.2 t)) := by
  have h0 := cnt_le c.1 t; have h1 := cnt_le c.2.1 t; have h2 := cnt_le c.2.2.1 t; have h3 := cnt_le c.2.2.2 t
  exact merge4_run (merge2_run (vsort_asc _ t) (vsort_asc _ t) h0 h1) (merge2_run (vsort_asc _ t) (vsort_asc _ t) h2 h3) (by omega) (by omega)

/-- Where a largest half of two runs is at least `t`: the last `p` lanes and the first `q`. -/
theorem keepTop64_run {r c : V16 Ideal × V16 Ideal × V16 Ideal × V16 Ideal} {t : EReal} {p q : Nat} (hr : Run4 r t p) (hc : Run4 c t q)
    (hp : p ≤ 64) (hq : q ≤ 64) : Run4 (keepTop64 r c) t (min 64 (p + q)) := by
  obtain ⟨r0, r1, r2, r3⟩ := r; obtain ⟨c0, c1, c2, c3⟩ := c
  obtain ⟨hr0, hr1, hr2, hr3⟩ := hr; obtain ⟨hc0, hc1, hc2, hc3⟩ := hc
  dsimp only at hr0 hr1 hr2 hr3 hc0 hc1 hc2 hc3 ⊢
  have l0 : ∀ i, t ≤ lane (maximumf r0 (rev c3)) i ↔ 64 ≤ i.val + p ∨ i.val < q := fun i => by
    have := i.isLt
    rw [le_max_lane, le_rev_lane, hr0, hc3, Fin.val_rev]; omega
  have l1 : ∀ i, t ≤ lane (maximumf r1 (rev c2)) i ↔ 48 ≤ i.val + p ∨ i.val + 16 < q := fun i => by
    have := i.isLt
    rw [le_max_lane, le_rev_lane, hr1, hc2, Fin.val_rev]; omega
  have l2 : ∀ i, t ≤ lane (maximumf r2 (rev c1)) i ↔ 32 ≤ i.val + p ∨ i.val + 32 < q := fun i => by
    have := i.isLt
    rw [le_max_lane, le_rev_lane, hr2, hc1, Fin.val_rev]; omega
  have l3 : ∀ i, t ≤ lane (maximumf r3 (rev c0)) i ↔ 16 ≤ i.val + p ∨ i.val + 48 < q := fun i => by
    have := i.isLt
    rw [le_max_lane, le_rev_lane, hr3, hc0, Fin.val_rev]; omega
  have n : cnt (maximumf r0 (rev c3)) t + cnt (maximumf r1 (rev c2)) t + cnt (maximumf r2 (rev c1)) t + cnt (maximumf r3 (rev c0)) t = min 64 (p + q) := by
    by_cases h : 64 ≤ p + q
    · have e0 := cnt_of_all fun i => (l0 i).mpr (by omega)
      have e1 := cnt_of_all fun i => (l1 i).mpr (by omega)
      have e2 := cnt_of_all fun i => (l2 i).mpr (by omega)
      have e3 := cnt_of_all fun i => (l3 i).mpr (by omega)
      omega
    · have none : ∀ {u v : V16 Ideal} {a b : Nat}, Asc u t a → Asc v t b → a + b ≤ 16 → cnt (minimumf u (rev v)) t = 0 := fun hu hv hab =>
        cnt_of_none fun i => by
          have := i.isLt
          rw [le_min_lane, le_rev_lane, hu, hv, Fin.val_rev]; omega
      have e0 := cnt_min_add_max r0 (rev c3) t
      have e1 := cnt_min_add_max r1 (rev c2) t
      have e2 := cnt_min_add_max r2 (rev c1) t
      have e3 := cnt_min_add_max r3 (rev c0) t
      rw [none hr0 hc3 (by omega), cnt_rev, hr0.cnt_eq (by omega), hc3.cnt_eq (by omega)] at e0
      rw [none hr1 hc2 (by omega), cnt_rev, hr1.cnt_eq (by omega), hc2.cnt_eq (by omega)] at e1
      rw [none hr2 hc1 (by omega), cnt_rev, hr2.cnt_eq (by omega), hc1.cnt_eq (by omega)] at e2
      rw [none hr3 hc0 (by omega), cnt_rev, hr3.cnt_eq (by omega), hc0.cnt_eq (by omega)] at e3
      omega
  unfold keepTop64
  dsimp only
  generalize maximumf r0 (rev c3) = h0 at l0 n ⊢
  generalize maximumf r1 (rev c2) = h1 at l1 n ⊢
  generalize maximumf r2 (rev c1) = h2 at l2 n ⊢
  generalize maximumf r3 (rev c0) = h3 at l3 n ⊢
  clear hr0 hr1 hr2 hr3 hc0 hc1 hc2 hc3
  have c := cnt_cleaned2 (u := h0) (u' := h1) (v := h2) (v' := h3) (t := t) fun i j => by
    have := i.isLt; have := j.isLt
    simp only [l0, l1, l2, l3]; omega
  have cl := cnt_cleaned (u := minimumf h0 h2) (v := minimumf h1 h3) (t := t) fun i j => by
    have := i.isLt; have := j.isLt
    simp only [le_min_lane, l0, l1, l2, l3]; omega
  have ch := cnt_cleaned (u := maximumf h0 h2) (v := maximumf h1 h3) (t := t) fun i j => by
    have := i.isLt; have := j.isLt
    simp only [le_max_lane, l0, l1, l2, l3]; omega
  exact ⟨asc_of_cnt (by omega), asc_of_cnt (by omega), asc_of_cnt (by omega), asc_of_cnt (by omega)⟩

/-- Four vectors' lanes at least `t`. -/
def cnt4 (c : V16 Ideal × V16 Ideal × V16 Ideal × V16 Ideal) (t : EReal) : Nat := cnt c.1 t + cnt c.2.1 t + (cnt c.2.2.1 t + cnt c.2.2.2 t)
theorem cnt4_le (c : V16 Ideal × V16 Ideal × V16 Ideal × V16 Ideal) (t : EReal) : cnt4 c t ≤ 64 := by
  have h0 := cnt_le c.1 t; have h1 := cnt_le c.2.1 t; have h2 := cnt_le c.2.2.1 t; have h3 := cnt_le c.2.2.2 t
  unfold cnt4; omega

/-- A run of 64 with a group of 256 taken in. -/
theorem keepTop64_group {r : V16 Ideal × V16 Ideal × V16 Ideal × V16 Ideal} {t : EReal} {N : Nat} (hr : Run4 r t (min 64 N))
    (c0 c1 c2 c3 : V16 Ideal × V16 Ideal × V16 Ideal × V16 Ideal) :
    Run4 (keepTop64 r (groupTop64 c0 c1 c2 c3)) t (min 64 (N + cnt4 c0 t + cnt4 c1 t + cnt4 c2 t + cnt4 c3 t)) := by
  have h := keepTop64_run hr (keepTop64_run (keepTop64_run (sort64_run c0 t) (sort64_run c1 t) (cnt4_le c0 t) (cnt4_le c1 t))
    (keepTop64_run (sort64_run c2 t) (sort64_run c3 t) (cnt4_le c2 t) (cnt4_le c3 t)) (by omega) (by omega)) (by omega) (by omega)
  refine (congrArg (Run4 _ t) ?_).mp h
  unfold cnt4; omega

end Cert.Proof.Net

end
-- ==== Proof.RowTop.lean ====
/-
  A row's result over the extended reals: place `k` of what the network writes is at least `t` exactly when more than `k` of the
  row's places are, for every threshold `t` above minus infinity.
-/
module

public import proofs.«01_k».proof.Proof.Tile
public import proofs.«01_k».proof.Proof.Sorted

@[expose] public section

noncomputable section

namespace Cert.Proof.Top

open Cert.KernelIdeal Cert.KernelIdeal.Gen Cert.Proof.Net
open Idealize.ShloMosaic
open Idealize.ShloMosaic.ValueIdx (ix1 ix2 eq_ix1)

/-- Is place `n` of the row at least `t`? -/
def rowHit (x : S8192.Idx → EReal) (t : EReal) (n : Nat) : Nat := if t ≤ x (ix1 ⟨n % 8192, Nat.mod_lt _ (by decide)⟩) then 1 else 0
/-- How many of the row's first `n` places are at least `t`. -/
def upTo (x : S8192.Idx → EReal) (t : EReal) (n : Nat) : Nat := ∑ j ∈ Finset.range n, rowHit x t j

/-- Sixteen places more. -/
theorem upTo_block (x : S8192.Idx → EReal) (t : EReal) {off : Fin 1 → Nat} (h : ∀ a, off a + S16.size a ≤ S8192.size a) (o : Nat) (e : off = ![o]) :
    upTo x t (o + 16) = upTo x t o + cnt (lanes (F := Ideal) x off h) t := by
  subst e
  unfold upTo cnt
  rw [Finset.sum_range_add]
  refine congrArg (_ + ·) (Finset.sum_congr rfl fun n hn => ?_)
  have hn' := Finset.mem_range.mp hn
  have ho : o + 16 ≤ 8192 := h 0
  unfold rowHit hit lane lanes
  refine if_congr (iff_of_eq (congrArg (fun i => t ≤ x i) ?_)) rfl rfl
  refine ((eq_ix1 _).trans (congrArg ix1 (Fin.ext ?_))).symm
  show o + 1 * (n % 16) = (o + n) % 8192
  omega

/-- Sixty-four places more, as four vectors. -/
theorem upTo_chunk (x : S8192.Idx → EReal) (t : EReal) {f0 f1 f2 f3 : Fin 1 → Nat} (h0 : ∀ a, f0 a + S16.size a ≤ S8192.size a)
    (h1 : ∀ a, f1 a + S16.size a ≤ S8192.size a) (h2 : ∀ a, f2 a + S16.size a ≤ S8192.size a) (h3 : ∀ a, f3 a + S16.size a ≤ S8192.size a)
    (o : Nat) (e0 : f0 = ![o]) (e1 : f1 = ![o + 16]) (e2 : f2 = ![o + 32]) (e3 : f3 = ![o + 48]) :
    upTo x t (o + 64) = upTo x t o + cnt4 (lanes (F := Ideal) x f0 h0, lanes (F := Ideal) x f1 h1, lanes (F := Ideal) x f2 h2, lanes (F := Ideal) x f3 h3) t := by
  have b0 := upTo_block x t h0 o e0
  have b1 := upTo_block x t h1 (o + 16) e1
  have b2 := upTo_block x t h2 (o + 32) e2
  have b3 := upTo_block x t h3 (o + 48) e3
  simp only [cnt4, Nat.add_assoc, Nat.reduceAdd] at b0 b1 b2 b3 ⊢
  omega

/-- A later chunk of a trip's group. -/
theorem upTo_later (x : S8192.Idx → EReal) (t : EReal) (k : Fin k0_t1_loop.trips) (r : Fin 3) :
    upTo x t (256 * k.val + 64 * (r.val + 1) + 64) = upTo x t (256 * k.val + 64 * (r.val + 1))
      + cnt4 (lanes (F := Ideal) x _ (k0_off4_inb k r 0), lanes (F := Ideal) x _ (k0_off4_inb k r 1), lanes (F := Ideal) x _ (k0_off4_inb k r 2),
          lanes (F := Ideal) x _ (k0_off4_inb k r 3)) t :=
  upTo_chunk x t _ _ _ _ (256 * k.val + 64 * (r.val + 1))
    ((k0_off4_eq k r 0).trans (congrArg (fun n => ![n]) (by show 256 * k.val + 64 * r.val + 16 * 0 + 64 = _; omega)))
    ((k0_off4_eq k r 1).trans (congrArg (fun n => ![n]) (by show 256 * k.val + 64 * r.val + 16 * 1 + 64 = _; omega)))
    ((k0_off4_eq k r 2).trans (congrArg (fun n => ![n]) (by show 256 * k.val + 64 * r.val + 16 * 2 + 64 = _; omega)))
    ((k0_off4_eq k r 3).trans (congrArg (fun n => ![n]) (by show 256 * k.val + 64 * r.val + 16 * 3 + 64 = _; omega)))

/-- One trip of the loop: a group of 256 places more. -/
theorem rowStep_run (x : S8192.Idx → EReal) (t : EReal) (k : Fin k0_t1_loop.trips) {r : V16 Ideal × V16 Ideal × V16 Ideal × V16 Ideal}
    (hr : Run4 r t (min 64 (upTo x t (256 * k.val)))) : Run4 (rowStep (F := Ideal) (lanes x) k r) t (min 64 (upTo x t (256 * (k.val + 1)))) := by
  have h := keepTop64_group hr
    (lanes (F := Ideal) x _ (k0_off3_inb k 0), lanes (F := Ideal) x _ (k0_off3_inb k 1), lanes (F := Ideal) x _ (k0_off3_inb k 2), lanes (F := Ideal) x _ (k0_off3_inb k 3))
    (lanes (F := Ideal) x _ (k0_off4_inb k 0 0), lanes (F := Ideal) x _ (k0_off4_inb k 0 1), lanes (F := Ideal) x _ (k0_off4_inb k 0 2), lanes (F := Ideal) x _ (k0_off4_inb k 0 3))
    (lanes (F := Ideal) x _ (k0_off4_inb k 1 0), lanes (F := Ideal) x _ (k0_off4_inb k 1 1), lanes (F := Ideal) x _ (k0_off4_inb k 1 2), lanes (F := Ideal) x _ (k0_off4_inb k 1 3))
    (lanes (F := Ideal) x _ (k0_off4_inb k 2 0), lanes (F := Ideal) x _ (k0_off4_inb k 2 1), lanes (F := Ideal) x _ (k0_off4_inb k 2 2), lanes (F := Ideal) x _ (k0_off4_inb k 2 3))
  have c0 := upTo_chunk x t (k0_off3_inb k 0) (k0_off3_inb k 1) (k0_off3_inb k 2) (k0_off3_inb k 3) (256 * k.val)
    (k0_off3_eq k 0) (k0_off3_eq k 1) (k0_off3_eq k 2) (k0_off3_eq k 3)
  have c1 : upTo x t (256 * k.val + 64 + 64) = upTo x t (256 * k.val + 64) + _ := upTo_later x t k 0
  have c2 : upTo x t (256 * k.val + 128 + 64) = upTo x t (256 * k.val + 128) + _ := upTo_later x t k 1
  have c3 : upTo x t (256 * k.val + 192 + 64) = upTo x t (256 * k.val + 192) + _ := upTo_later x t k 2
  rw [← c0, ← c1, ← c2, ← c3] at h
  exact h

/-- The carried vectors before trip `n`: the largest 64 of the row's first `256 n` places, sorted. -/
theorem carried_run (x : S8192.Idx → EReal) (t : EReal) (ht : ⊥ < t) : ∀ n ≤ k0_t1_loop.trips, Run4 (carried (F := Ideal) x n) t (min 64 (upTo x t (256 * n)))
  | 0, _ => by
    have e : ∀ i : Fin 16, ¬ t ≤ lane (broadcast S16 (Scalar.ofBits (F := Ideal) .f32 0xFF800000#32)) i := fun i h => by
      have hb : lane (broadcast S16 (Scalar.ofBits (F := Ideal) .f32 0xFF800000#32)) i = ⊥ := by
        show Ideal.ofBits .f32 0xFF800000#32 = ⊥
        simp [Ideal.ofBits, Ideal.ieee]
      rw [hb] at h
      exact absurd ht (not_lt.mpr h)
    have a : Asc (broadcast S16 (Scalar.ofBits (F := Ideal) .f32 0xFF800000#32)) t 0 := fun i => by
      have := i.isLt
      exact iff_of_false (e i) (by omega)
    exact ⟨a, a, a, a⟩
  | n + 1, h => by
    rw [carried, dif_pos (show n < k0_t1_loop.trips from h)]
    exact rowStep_run x t ⟨n, h⟩ (carried_run x t ht n (Nat.le_of_succ_le h))

/-- The row written, by thresholds. -/
theorem le_rowOut (x : S8192.Idx → EReal) (t : EReal) (ht : ⊥ < t) (k : Fin 64) : t ≤ (rowOut (F := Ideal) x (ix1 k) : EReal) ↔ k.val < upTo x t 8192 := by
  obtain ⟨h0, h1, h2, h3⟩ := carried_run x t ht k0_t1_loop.trips le_rfl
  rw [show 256 * k0_t1_loop.trips = 8192 by decide] at h0 h1 h2 h3
  have hk := k.isLt
  have key : ∀ (v : V16 Ideal) (b : Nat), Asc v t b → (t ≤ lane (rev v) ⟨k.val % 16, Nat.mod_lt _ (by decide)⟩ ↔ k.val % 16 < b) := fun v b hv => by
    rw [le_rev_lane, hv, Fin.val_rev]; dsimp only; omega
  show t ≤ lane (block (turned (carried (F := Ideal) x k0_t1_loop.trips)) (k.val / 16)) ⟨k.val % 16, Nat.mod_lt _ (by decide)⟩ ↔ _
  have hq : k.val / 16 = 0 ∨ k.val / 16 = 1 ∨ k.val / 16 = 2 ∨ k.val / 16 = 3 := by omega
  rcases hq with hq | hq | hq | hq <;> rw [hq]
  · exact (key _ _ h3).trans (by omega)
  · exact (key _ _ h2).trans (by omega)
  · exact (key _ _ h1).trans (by omega)
  · exact (key _ _ h0).trans (by omega)

end Cert.Proof.Top

end
-- ==== Proof.RefTop.lean ====
/-
  The reference's result over the extended reals: place `k` of the row sorted, turned over and cut to 64 is at least `t` exactly
  when more than `k` of the row's places are.
-/
module

public import proofs.«01_k».proof.Proof.Gen.ReferenceIdeal.Run
public import Idealize.ShloMosaic.PureOps.Ideal
public import Idealize.ShloMosaic.Lib.SortFacts
public import Idealize.ShloMosaic.Lib.ValueIdxCore
public import Idealize.ShloMosaic.Lib.Pipeline.Value
public import Mathlib.Order.Interval.Finset.Fin

@[expose] public section

noncomputable section

namespace Cert.Proof.Ref

open Cert.ReferenceIdeal Cert.ReferenceIdeal.Gen
open Idealize.ShloMosaic
open Idealize.ShloMosaic.ValueIdx (ix1 ix2 eq_ix2)

/-- How many places of a row are at least `t`. -/
def above {n : Nat} (g : Fin n → EReal) (t : EReal) : Nat := (Finset.univ.filter fun i => t ≤ g i).card

/-- In an ascending row, place `k` from the end is at least `t` exactly when more than `k` places are. -/
theorem le_from_end {n : Nat} (g : Fin n → EReal) (hg : ∀ i j, i < j → g i ≤ g j) (t : EReal) (k : Fin n) : t ≤ g k.rev ↔ k.val < above g t := by
  have hk := k.isLt
  have mono : Monotone g := fun i j h => h.lt_or_eq.elim (hg i j) fun e => e ▸ le_rfl
  constructor
  · intro h
    have hs : Finset.Ici k.rev ⊆ Finset.univ.filter fun i => t ≤ g i := fun i hi => by
      simp only [Finset.mem_filter, Finset.mem_univ, true_and]
      exact h.trans (mono (Finset.mem_Ici.mp hi))
    have hc := Finset.card_le_card hs
    rw [Fin.card_Ici, Fin.val_rev] at hc
    unfold above; omega
  · intro h
    by_contra hn
    have hs : (Finset.univ.filter fun i => t ≤ g i) ⊆ Finset.Ioi k.rev := fun i hi => by
      simp only [Finset.mem_filter, Finset.mem_univ, true_and] at hi
      exact Finset.mem_Ioi.mpr (lt_of_not_ge fun hle => hn (hi.trans (mono hle)))
    have hc := Finset.card_le_card hs
    rw [Fin.card_Ioi, Fin.val_rev] at hc
    unfold above at h; omega

/-- A row's places in another order are as many at or above `t`. -/
theorem above_comp {n : Nat} (g : Fin n → EReal) (σ : Fin n → Fin n) (hσ : Function.Bijective σ) (t : EReal) : above (fun i => g (σ i)) t = above g t := by
  unfold above
  refine Finset.card_bij (fun i _ => σ i) (fun i hi => ?_) (fun i _ j _ h => hσ.1 h) fun j hj => ?_
  · simpa using hi
  · obtain ⟨i, rfl⟩ := hσ.2 j
    exact ⟨i, by simpa using hj, rfl⟩

/-- The reference's comparison puts one before the other exactly when it is less. -/
theorem comparator_iff (a b : EReal) : comparator_f32_d1 (F := Ideal) a b = 1#1 ↔ a < b := by
  have z : Ideal.ofBits .f32 0x00000000#32 = 0 := by simp [Ideal.ofBits, Ideal.ieee]
  have e : ∀ a : EReal, Scalar.select (Ideal.cmp .une a a) (Ideal.ofBits .f32 0x7FC00000#32)
      (Scalar.select (Ideal.cmp .oeq a (Ideal.ofBits .f32 0x00000000#32)) (Ideal.ofBits .f32 0x00000000#32) a) = a := fun a => by
    rw [z]
    by_cases h : a = 0 <;> simp [Scalar.select, Ideal.cmp, h]
  have c : comparator_f32_d1 (F := Ideal) a b = Ideal.cmpTotal .lt a b := congrArg₂ (Ideal.cmpTotal .lt) (e a) (e b)
  rw [c]
  show BitVec.ofBool (decide (a < b)) = 1#1 ↔ _
  by_cases h : a < b <;> simp [h]

/-- The result of the reference at row `r`, place `k`. -/
theorem le_reference (x : S64x8192.Idx → EReal) (r k : Fin 64) (t : EReal) :
    t ≤ (extractStridedSlice S64x64 ![0, 0] (Host.reverse [1] (Host.sort S64x8192 1 (comparator_f32_d1 (F := Ideal)) x)) slices_S64x8192_S64x64_0_0 (ix2 r k) : EReal)
      ↔ k.val < above (fun j : Fin 8192 => x (ix2 r j)) t := by
  have hk := k.isLt
  let k' : Fin 8192 := ⟨k.val, by omega⟩
  let σ : Fin 8192 → Fin 8192 := sortedFrom fun j j' => comparator_f32_d1 (F := Ideal) (x (ix2 r j)) (x (ix2 r j')) == 1#1
  have hσ : Function.Bijective σ := ⟨sortedFrom_injective _, sortedFrom_surjective _⟩
  have hs : ∀ j : Fin 8192, Host.sort S64x8192 1 (comparator_f32_d1 (F := Ideal)) x (ix2 r j) = x (ix2 r (σ j)) := fun j => by
    have al : ∀ i : Fin 8192, (ix2 r j : S64x8192.Idx).along 1 i = ix2 r i := fun i => by
      refine (eq_ix2 _).trans ?_
      rfl
    show x ((ix2 r j : S64x8192.Idx).along 1 (sortedFrom (fun i i' : Fin 8192 =>
      comparator_f32_d1 (F := Ideal) (x ((ix2 r j : S64x8192.Idx).along 1 i)) (x ((ix2 r j : S64x8192.Idx).along 1 i')) == 1#1) j)) = _
    simp only [al]
    exact congrArg x (al _)
  have hm : ∀ i j : Fin 8192, i < j → x (ix2 r (σ i)) ≤ x (ix2 r (σ j)) := fun i j hij => by
    have h := sortedFrom_noInversion (fun j j' : Fin 8192 => decide (x (ix2 r j) < x (ix2 r j')))
      (fun j j' => comparator_f32_d1 (F := Ideal) (x (ix2 r j)) (x (ix2 r j')) == 1#1)
      (fun a b h => decide_eq_false (not_lt.mpr (le_of_lt ((comparator_iff _ _).mp (beq_iff_eq.mp h)))))
      (fun a b h => beq_iff_eq.mpr ((comparator_iff _ _).mpr (of_decide_eq_true h)))
      (fun a b c h h' => decide_eq_false (not_lt.mpr ((not_lt.mp (of_decide_eq_false h')).trans (not_lt.mp (of_decide_eq_false h))))) i j hij
    exact not_lt.mp (of_decide_eq_false h)
  have e : extractStridedSlice S64x64 ![0, 0] (Host.reverse [1] (Host.sort S64x8192 1 (comparator_f32_d1 (F := Ideal)) x)) slices_S64x8192_S64x64_0_0 (ix2 r k)
      = x (ix2 r (σ k'.rev)) := by
    rw [← hs]
    refine (extractStridedSlice_apply ![0, 0] _ slices_S64x8192_S64x64_0_0 (ix2 r k) (ix2 r k') fun a => ?_).trans ?_
    · match a with
      | ⟨0, _⟩ => show r.val = 0 + r.val; omega
      | ⟨1, _⟩ => show k.val = 0 + k.val; omega
    · refine congrArg (Host.sort S64x8192 1 (comparator_f32_d1 (F := Ideal)) x) (funext fun a => ?_)
      match a with
      | ⟨0, _⟩ => rfl
      | ⟨1, _⟩ => rfl
  rw [e]
  exact (le_from_end (fun j => x (ix2 r (σ j))) hm t k').trans (by rw [above_comp (fun j => x (ix2 r j)) σ hσ])

end Cert.Proof.Ref

end
-- ==== Proof.Value.lean ====
/-
  The equation: over the extended reals what the kernel leaves in `o` is the reference's result. Two extended reals that are at least the same
  thresholds are equal, and both sides at row `r`, place `k` are at least `t` exactly when more than `k` of the row's places are.
-/
module

public import proofs.«01_k».proof.Proof.RowTop
public import proofs.«01_k».proof.Proof.RefTop

@[expose] public section

noncomputable section

namespace Cert.Proof.Top

open Cert.KernelIdeal
open Idealize.ShloMosaic
open Idealize.ShloMosaic.ValueIdx (ix1 ix2 eq_ix2)

/-- The two counts of a row's places at or above `t`: as a sum over the first 8192 numbers, and as a set's size. -/
theorem upTo_row (fx : S64x8192.Idx → EReal) (r : Fin 64) (t : EReal) :
    upTo (fun y => fx (ix2 r (y 0))) t 8192 = Cert.Proof.Ref.above (fun j : Fin 8192 => fx (ix2 r j)) t := by
  unfold upTo Cert.Proof.Ref.above
  rw [Finset.card_filter, Finset.sum_range]
  refine Finset.sum_congr rfl fun j _ => ?_
  unfold rowHit
  refine if_congr (iff_of_eq (congrArg (fun i : Fin 8192 => t ≤ fx (ix2 r i)) (Fin.ext ?_))) rfl rfl
  exact Nat.mod_eq_of_lt j.isLt

/-- Extended reals that are at least the same thresholds are equal; minus infinity need not be tried. -/
theorem eq_of_thresholds {a b : EReal} (h : ∀ t : EReal, ⊥ < t → (t ≤ a ↔ t ≤ b)) : a = b := by
  have half : ∀ {a b : EReal}, (∀ t : EReal, ⊥ < t → (t ≤ a ↔ t ≤ b)) → a ≤ b := fun {a b} h => by
    rcases eq_or_ne a ⊥ with e | e
    · rw [e]; exact bot_le
    · exact (h a (bot_lt_iff_ne_bot.mpr e)).mp le_rfl
  exact le_antisymm (half h) (half fun t ht => (h t ht).symm)

/-- What the kernel leaves in `o` is the 64 largest of every row, in descending order. -/
theorem res_eq (fx : S64x8192.Idx → EReal) :
    res (F := Ideal) fx = extractStridedSlice Cert.ReferenceIdeal.S64x64 ![0, 0] (Host.reverse [1] (Host.sort Cert.ReferenceIdeal.S64x8192 1
      (Cert.ReferenceIdeal.comparator_f32_d1 (F := Ideal)) fx)) Cert.ReferenceIdeal.Gen.slices_S64x8192_S64x64_0_0 := by
  funext i
  obtain ⟨r, k, rfl⟩ : ∃ r k : Fin 64, i = ix2 r k := ⟨i 0, i 1, eq_ix2 i⟩
  refine eq_of_thresholds fun t ht => ?_
  refine (le_rowOut (fun y => fx (ix2 r (y 0))) t ht k).trans ?_
  rw [upTo_row]
  exact (Cert.Proof.Ref.le_reference fx r k t).symm

end Cert.Proof.Top

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame. Its text is the ideal program's, so its run is that program's run at the machine's words. -/
theorem frame_kernel : Cert.quiescent_Kernel := fun m ρ _ =>
  (θ_run Cert.KernelIdeal.defs _ _).mono (fun _ h => ⟨fun c => (h.1 c).2, h.2⟩) (Top.run_main (F := Bits) m ρ)

/-- The frame of the kernel over the extended reals. -/
theorem frame_ideal : Cert.quiescent_KernelIdeal := fun m ρ _ =>
  (θ_run Cert.KernelIdeal.defs _ _).mono (fun _ h => ⟨fun c => (h.1 c).2, h.2⟩) (Top.run_main (F := Ideal) m ρ)

/-- The reference's frame. It has no semaphore, so every counter is zero at the end. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same function: from equal arguments both end with the 64 largest of every row. -/
theorem algebraic : Cert.algebraic_KernelIdeal_ReferenceIdeal := by
  intro m ρ m' ρ' _ hagree
  refine ⟨fun c => Top.result m c, (θ_run Cert.KernelIdeal.defs _ _).mono (fun _ h c => h.1 c) (Top.run_main (F := Ideal) m ρ), ?_⟩
  refine (θ_run Cert.ReferenceIdeal.defs _ _).mono (fun _ h c => ⟨(h c).1.trans ?_, (h c).2⟩) (Cert.ReferenceIdeal.Value.run (F := Ideal) m' ρ')
  rw [hagree c]
  exact (Top.res_eq _).symm

theorem claim : Cert.Claim := ⟨Cert.Kernel.Gen.facts, Cert.KernelIdeal.Gen.facts, Cert.ReferenceIdeal.Gen.facts,
  frame_kernel, frame_ideal, frame_reference, trivial, algebraic⟩

end Cert.Proof

end
